-- ==== Defs.lean ====
def Pre_ReferenceIdeal (m : (ℓ : Loc Cert.ReferenceIdeal.nD Cert.ReferenceIdeal.τ Cert.ReferenceIdeal.sig) → Buf (Elt Ideal) ℓ) : Prop :=
  True

def Pre_ReferenceIdeal_pi_0123_ReferenceIdeal [hPre_pi_0123_ReferenceIdeal : Cert.Pre_pi_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0132_ReferenceIdeal [hPre_pi_0132_ReferenceIdeal : Cert.Pre_pi_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0213_ReferenceIdeal [hPre_pi_0213_ReferenceIdeal : Cert.Pre_pi_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0231_ReferenceIdeal [hPre_pi_0231_ReferenceIdeal : Cert.Pre_pi_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0312_ReferenceIdeal [hPre_pi_0312_ReferenceIdeal : Cert.Pre_pi_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0321_ReferenceIdeal [hPre_pi_0321_ReferenceIdeal : Cert.Pre_pi_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1023_ReferenceIdeal [hPre_pi_1023_ReferenceIdeal : Cert.Pre_pi_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1032_ReferenceIdeal [hPre_pi_1032_ReferenceIdeal : Cert.Pre_pi_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1203_ReferenceIdeal [hPre_pi_1203_ReferenceIdeal : Cert.Pre_pi_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1230_ReferenceIdeal [hPre_pi_1230_ReferenceIdeal : Cert.Pre_pi_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1302_ReferenceIdeal [hPre_pi_1302_ReferenceIdeal : Cert.Pre_pi_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1320_ReferenceIdeal [hPre_pi_1320_ReferenceIdeal : Cert.Pre_pi_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2013_ReferenceIdeal [hPre_pi_2013_ReferenceIdeal : Cert.Pre_pi_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2031_ReferenceIdeal [hPre_pi_2031_ReferenceIdeal : Cert.Pre_pi_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2103_ReferenceIdeal [hPre_pi_2103_ReferenceIdeal : Cert.Pre_pi_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2130_ReferenceIdeal [hPre_pi_2130_ReferenceIdeal : Cert.Pre_pi_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2301_ReferenceIdeal [hPre_pi_2301_ReferenceIdeal : Cert.Pre_pi_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2310_ReferenceIdeal [hPre_pi_2310_ReferenceIdeal : Cert.Pre_pi_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3012_ReferenceIdeal [hPre_pi_3012_ReferenceIdeal : Cert.Pre_pi_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3021_ReferenceIdeal [hPre_pi_3021_ReferenceIdeal : Cert.Pre_pi_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3102_ReferenceIdeal [hPre_pi_3102_ReferenceIdeal : Cert.Pre_pi_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3120_ReferenceIdeal [hPre_pi_3120_ReferenceIdeal : Cert.Pre_pi_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3201_ReferenceIdeal [hPre_pi_3201_ReferenceIdeal : Cert.Pre_pi_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3210_ReferenceIdeal [hPre_pi_3210_ReferenceIdeal : Cert.Pre_pi_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel [hPre_pi_0123_Kernel : Cert.Pre_pi_0123_Kernel.Facts] (m : (ℓ : Loc Cert.Kernel.nD Cert.Kernel.τ Cert.Kernel.sig) → Buf (Elt Bits) ℓ) : Prop :=
  ∀ c : Dev Cert.Kernel.nD,
    (Cert.Pre_pi_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0132_Kernel [hPre_pi_0132_Kernel : Cert.Pre_pi_0132_Kernel.Facts] (m : (ℓ : Loc Cert.Kernel.nD Cert.Kernel.τ Cert.Kernel.sig) → Buf (Elt Bits) ℓ) : Prop :=
  ∀ c : Dev Cert.Kernel.nD,
    (Cert.Pre_pi_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0213_Kernel [hPre_pi_0213_Kernel : Cert.Pre_pi_0213_Kernel.Facts] (m : (ℓ : Loc Cert.Kernel.nD Cert.Kernel.τ Cert.Kernel.sig) → Buf (Elt Bits) ℓ) : Prop :=
  ∀ c : Dev Cert.Kernel.nD,
    (Cert.Pre_pi_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0231_Kernel [hPre_pi_0231_Kernel : Cert.Pre_pi_0231_Kernel.Facts] (m : (ℓ : Loc Cert.Kernel.nD Cert.Kernel.τ Cert.Kernel.sig) → Buf (Elt Bits) ℓ) : Prop :=
  ∀ c : Dev Cert.Kernel.nD,
    (Cert.Pre_pi_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0312_Kernel [hPre_pi_0312_Kernel : Cert.Pre_pi_0312_Kernel.Facts] (m : (ℓ : Loc Cert.Kernel.nD Cert.Kernel.τ Cert.Kernel.sig) → Buf (Elt Bits) ℓ) : Prop :=
  ∀ c : Dev Cert.Kernel.nD,
    (Cert.Pre_pi_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0321_Kernel [hPre_pi_0321_Kernel : Cert.Pre_pi_0321_Kernel.Facts] (m : (ℓ : Loc Cert.Kernel.nD Cert.Kernel.τ Cert.Kernel.sig) → Buf (Elt Bits) ℓ) : Prop :=
  ∀ c : Dev Cert.Kernel.nD,
    (Cert.Pre_pi_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1023_Kernel [hPre_pi_1023_Kernel : Cert.Pre_pi_1023_Kernel.Facts] (m : (ℓ : Loc Cert.Kernel.nD Cert.Kernel.τ Cert.Kernel.sig) → Buf (Elt Bits) ℓ) : Prop :=
  ∀ c : Dev Cert.Kernel.nD,
    (Cert.Pre_pi_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1032_Kernel [hPre_pi_1032_Kernel : Cert.Pre_pi_1032_Kernel.Facts] (m : (ℓ : Loc Cert.Kernel.nD Cert.Kernel.τ Cert.Kernel.sig) → Buf (Elt Bits) ℓ) : Prop :=
  ∀ c : Dev Cert.Kernel.nD,
    (Cert.Pre_pi_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1203_Kernel [hPre_pi_1203_Kernel : Cert.Pre_pi_1203_Kernel.Facts] (m : (ℓ : Loc Cert.Kernel.nD Cert.Kernel.τ Cert.Kernel.sig) → Buf (Elt Bits) ℓ) : Prop :=
  ∀ c : Dev Cert.Kernel.nD,
    (Cert.Pre_pi_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1230_Kernel [hPre_pi_1230_Kernel : Cert.Pre_pi_1230_Kernel.Facts] (m : (ℓ : Loc Cert.Kernel.nD Cert.Kernel.τ Cert.Kernel.sig) → Buf (Elt Bits) ℓ) : Prop :=
  ∀ c : Dev Cert.Kernel.nD,
    (Cert.Pre_pi_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1302_Kernel [hPre_pi_1302_Kernel : Cert.Pre_pi_1302_Kernel.Facts] (m : (ℓ : Loc Cert.Kernel.nD Cert.Kernel.τ Cert.Kernel.sig) → Buf (Elt Bits) ℓ) : Prop :=
  ∀ c : Dev Cert.Kernel.nD,
    (Cert.Pre_pi_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1320_Kernel [hPre_pi_1320_Kernel : Cert.Pre_pi_1320_Kernel.Facts] (m : (ℓ : Loc Cert.Kernel.nD Cert.Kernel.τ Cert.Kernel.sig) → Buf (Elt Bits) ℓ) : Prop :=
  ∀ c : Dev Cert.Kernel.nD,
    (Cert.Pre_pi_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2013_Kernel [hPre_pi_2013_Kernel : Cert.Pre_pi_2013_Kernel.Facts] (m : (ℓ : Loc Cert.Kernel.nD Cert.Kernel.τ Cert.Kernel.sig) → Buf (Elt Bits) ℓ) : Prop :=
  ∀ c : Dev Cert.Kernel.nD,
    (Cert.Pre_pi_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2031_Kernel [hPre_pi_2031_Kernel : Cert.Pre_pi_2031_Kernel.Facts] (m : (ℓ : Loc Cert.Kernel.nD Cert.Kernel.τ Cert.Kernel.sig) → Buf (Elt Bits) ℓ) : Prop :=
  ∀ c : Dev Cert.Kernel.nD,
    (Cert.Pre_pi_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2103_Kernel [hPre_pi_2103_Kernel : Cert.Pre_pi_2103_Kernel.Facts] (m : (ℓ : Loc Cert.Kernel.nD Cert.Kernel.τ Cert.Kernel.sig) → Buf (Elt Bits) ℓ) : Prop :=
  ∀ c : Dev Cert.Kernel.nD,
    (Cert.Pre_pi_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2130_Kernel [hPre_pi_2130_Kernel : Cert.Pre_pi_2130_Kernel.Facts] (m : (ℓ : Loc Cert.Kernel.nD Cert.Kernel.τ Cert.Kernel.sig) → Buf (Elt Bits) ℓ) : Prop :=
  ∀ c : Dev Cert.Kernel.nD,
    (Cert.Pre_pi_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2301_Kernel [hPre_pi_2301_Kernel : Cert.Pre_pi_2301_Kernel.Facts] (m : (ℓ : Loc Cert.Kernel.nD Cert.Kernel.τ Cert.Kernel.sig) → Buf (Elt Bits) ℓ) : Prop :=
  ∀ c : Dev Cert.Kernel.nD,
    (Cert.Pre_pi_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2310_Kernel [hPre_pi_2310_Kernel : Cert.Pre_pi_2310_Kernel.Facts] (m : (ℓ : Loc Cert.Kernel.nD Cert.Kernel.τ Cert.Kernel.sig) → Buf (Elt Bits) ℓ) : Prop :=
  ∀ c : Dev Cert.Kernel.nD,
    (Cert.Pre_pi_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3012_Kernel [hPre_pi_3012_Kernel : Cert.Pre_pi_3012_Kernel.Facts] (m : (ℓ : Loc Cert.Kernel.nD Cert.Kernel.τ Cert.Kernel.sig) → Buf (Elt Bits) ℓ) : Prop :=
  ∀ c : Dev Cert.Kernel.nD,
    (Cert.Pre_pi_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3021_Kernel [hPre_pi_3021_Kernel : Cert.Pre_pi_3021_Kernel.Facts] (m : (ℓ : Loc Cert.Kernel.nD Cert.Kernel.τ Cert.Kernel.sig) → Buf (Elt Bits) ℓ) : Prop :=
  ∀ c : Dev Cert.Kernel.nD,
    (Cert.Pre_pi_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3102_Kernel [hPre_pi_3102_Kernel : Cert.Pre_pi_3102_Kernel.Facts] (m : (ℓ : Loc Cert.Kernel.nD Cert.Kernel.τ Cert.Kernel.sig) → Buf (Elt Bits) ℓ) : Prop :=
  ∀ c : Dev Cert.Kernel.nD,
    (Cert.Pre_pi_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3120_Kernel [hPre_pi_3120_Kernel : Cert.Pre_pi_3120_Kernel.Facts] (m : (ℓ : Loc Cert.Kernel.nD Cert.Kernel.τ Cert.Kernel.sig) → Buf (Elt Bits) ℓ) : Prop :=
  ∀ c : Dev Cert.Kernel.nD,
    (Cert.Pre_pi_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3201_Kernel [hPre_pi_3201_Kernel : Cert.Pre_pi_3201_Kernel.Facts] (m : (ℓ : Loc Cert.Kernel.nD Cert.Kernel.τ Cert.Kernel.sig) → Buf (Elt Bits) ℓ) : Prop :=
  ∀ c : Dev Cert.Kernel.nD,
    (Cert.Pre_pi_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3210_Kernel [hPre_pi_3210_Kernel : Cert.Pre_pi_3210_Kernel.Facts] (m : (ℓ : Loc Cert.Kernel.nD Cert.Kernel.τ Cert.Kernel.sig) → Buf (Elt Bits) ℓ) : Prop :=
  ∀ c : Dev Cert.Kernel.nD,
    (Cert.Pre_pi_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_0123_Kernel : Cert.Pre_pi_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0132_Kernel [hPre_pi_0132_Kernel : Cert.Pre_pi_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0213_Kernel [hPre_pi_0213_Kernel : Cert.Pre_pi_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0231_Kernel [hPre_pi_0231_Kernel : Cert.Pre_pi_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0312_Kernel [hPre_pi_0312_Kernel : Cert.Pre_pi_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0321_Kernel [hPre_pi_0321_Kernel : Cert.Pre_pi_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1023_Kernel [hPre_pi_1023_Kernel : Cert.Pre_pi_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1032_Kernel [hPre_pi_1032_Kernel : Cert.Pre_pi_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1203_Kernel [hPre_pi_1203_Kernel : Cert.Pre_pi_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1230_Kernel [hPre_pi_1230_Kernel : Cert.Pre_pi_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1302_Kernel [hPre_pi_1302_Kernel : Cert.Pre_pi_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1320_Kernel [hPre_pi_1320_Kernel : Cert.Pre_pi_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2013_Kernel [hPre_pi_2013_Kernel : Cert.Pre_pi_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2031_Kernel [hPre_pi_2031_Kernel : Cert.Pre_pi_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2103_Kernel [hPre_pi_2103_Kernel : Cert.Pre_pi_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2130_Kernel [hPre_pi_2130_Kernel : Cert.Pre_pi_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2301_Kernel [hPre_pi_2301_Kernel : Cert.Pre_pi_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2310_Kernel [hPre_pi_2310_Kernel : Cert.Pre_pi_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3012_Kernel [hPre_pi_3012_Kernel : Cert.Pre_pi_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3021_Kernel [hPre_pi_3021_Kernel : Cert.Pre_pi_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3102_Kernel [hPre_pi_3102_Kernel : Cert.Pre_pi_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3120_Kernel [hPre_pi_3120_Kernel : Cert.Pre_pi_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3201_Kernel [hPre_pi_3201_Kernel : Cert.Pre_pi_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3210_Kernel [hPre_pi_3210_Kernel : Cert.Pre_pi_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0123_ReferenceIdeal [hReferenceIdeal : Cert.ReferenceIdeal.Facts] [hPre_pi_0123_ReferenceIdeal : Cert.Pre_pi_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0132_ReferenceIdeal [hReferenceIdeal : Cert.ReferenceIdeal.Facts] [hPre_pi_0132_ReferenceIdeal : Cert.Pre_pi_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0213_ReferenceIdeal [hReferenceIdeal : Cert.ReferenceIdeal.Facts] [hPre_pi_0213_ReferenceIdeal : Cert.Pre_pi_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0231_ReferenceIdeal [hReferenceIdeal : Cert.ReferenceIdeal.Facts] [hPre_pi_0231_ReferenceIdeal : Cert.Pre_pi_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0312_ReferenceIdeal [hReferenceIdeal : Cert.ReferenceIdeal.Facts] [hPre_pi_0312_ReferenceIdeal : Cert.Pre_pi_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0321_ReferenceIdeal [hReferenceIdeal : Cert.ReferenceIdeal.Facts] [hPre_pi_0321_ReferenceIdeal : Cert.Pre_pi_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1023_ReferenceIdeal [hReferenceIdeal : Cert.ReferenceIdeal.Facts] [hPre_pi_1023_ReferenceIdeal : Cert.Pre_pi_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1032_ReferenceIdeal [hReferenceIdeal : Cert.ReferenceIdeal.Facts] [hPre_pi_1032_ReferenceIdeal : Cert.Pre_pi_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1203_ReferenceIdeal [hReferenceIdeal : Cert.ReferenceIdeal.Facts] [hPre_pi_1203_ReferenceIdeal : Cert.Pre_pi_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1230_ReferenceIdeal [hReferenceIdeal : Cert.ReferenceIdeal.Facts] [hPre_pi_1230_ReferenceIdeal : Cert.Pre_pi_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1302_ReferenceIdeal [hReferenceIdeal : Cert.ReferenceIdeal.Facts] [hPre_pi_1302_ReferenceIdeal : Cert.Pre_pi_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1320_ReferenceIdeal [hReferenceIdeal : Cert.ReferenceIdeal.Facts] [hPre_pi_1320_ReferenceIdeal : Cert.Pre_pi_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2013_ReferenceIdeal [hReferenceIdeal : Cert.ReferenceIdeal.Facts] [hPre_pi_2013_ReferenceIdeal : Cert.Pre_pi_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2031_ReferenceIdeal [hReferenceIdeal : Cert.ReferenceIdeal.Facts] [hPre_pi_2031_ReferenceIdeal : Cert.Pre_pi_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2103_ReferenceIdeal [hReferenceIdeal : Cert.ReferenceIdeal.Facts] [hPre_pi_2103_ReferenceIdeal : Cert.Pre_pi_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2130_ReferenceIdeal [hReferenceIdeal : Cert.ReferenceIdeal.Facts] [hPre_pi_2130_ReferenceIdeal : Cert.Pre_pi_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2301_ReferenceIdeal [hReferenceIdeal : Cert.ReferenceIdeal.Facts] [hPre_pi_2301_ReferenceIdeal : Cert.Pre_pi_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2310_ReferenceIdeal [hReferenceIdeal : Cert.ReferenceIdeal.Facts] [hPre_pi_2310_ReferenceIdeal : Cert.Pre_pi_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3012_ReferenceIdeal [hReferenceIdeal : Cert.ReferenceIdeal.Facts] [hPre_pi_3012_ReferenceIdeal : Cert.Pre_pi_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3021_ReferenceIdeal [hReferenceIdeal : Cert.ReferenceIdeal.Facts] [hPre_pi_3021_ReferenceIdeal : Cert.Pre_pi_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3102_ReferenceIdeal [hReferenceIdeal : Cert.ReferenceIdeal.Facts] [hPre_pi_3102_ReferenceIdeal : Cert.Pre_pi_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3120_ReferenceIdeal [hReferenceIdeal : Cert.ReferenceIdeal.Facts] [hPre_pi_3120_ReferenceIdeal : Cert.Pre_pi_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3201_ReferenceIdeal [hReferenceIdeal : Cert.ReferenceIdeal.Facts] [hPre_pi_3201_ReferenceIdeal : Cert.Pre_pi_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3210_ReferenceIdeal [hReferenceIdeal : Cert.ReferenceIdeal.Facts] [hPre_pi_3210_ReferenceIdeal : Cert.Pre_pi_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel [hKernel : Cert.Kernel.Facts] [hPre_pi_0123_Kernel : Cert.Pre_pi_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0132_Kernel [hKernel : Cert.Kernel.Facts] [hPre_pi_0132_Kernel : Cert.Pre_pi_0132_Kernel.Facts] : Prop :=
  ∀ (m : (ℓ : Loc Cert.Kernel.nD Cert.Kernel.τ Cert.Kernel.sig) → Buf (Elt Bits) ℓ) (g : Dev Cert.Kernel.nD → PrngReg), Pre_Kernel_pi_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0213_Kernel [hKernel : Cert.Kernel.Facts] [hPre_pi_0213_Kernel : Cert.Pre_pi_0213_Kernel.Facts] : Prop :=
  ∀ (m : (ℓ : Loc Cert.Kernel.nD Cert.Kernel.τ Cert.Kernel.sig) → Buf (Elt Bits) ℓ) (g : Dev Cert.Kernel.nD → PrngReg), Pre_Kernel_pi_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0231_Kernel [hKernel : Cert.Kernel.Facts] [hPre_pi_0231_Kernel : Cert.Pre_pi_0231_Kernel.Facts] : Prop :=
  ∀ (m : (ℓ : Loc Cert.Kernel.nD Cert.Kernel.τ Cert.Kernel.sig) → Buf (Elt Bits) ℓ) (g : Dev Cert.Kernel.nD → PrngReg), Pre_Kernel_pi_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0312_Kernel [hKernel : Cert.Kernel.Facts] [hPre_pi_0312_Kernel : Cert.Pre_pi_0312_Kernel.Facts] : Prop :=
  ∀ (m : (ℓ : Loc Cert.Kernel.nD Cert.Kernel.τ Cert.Kernel.sig) → Buf (Elt Bits) ℓ) (g : Dev Cert.Kernel.nD → PrngReg), Pre_Kernel_pi_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0321_Kernel [hKernel : Cert.Kernel.Facts] [hPre_pi_0321_Kernel : Cert.Pre_pi_0321_Kernel.Facts] : Prop :=
  ∀ (m : (ℓ : Loc Cert.Kernel.nD Cert.Kernel.τ Cert.Kernel.sig) → Buf (Elt Bits) ℓ) (g : Dev Cert.Kernel.nD → PrngReg), Pre_Kernel_pi_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1023_Kernel [hKernel : Cert.Kernel.Facts] [hPre_pi_1023_Kernel : Cert.Pre_pi_1023_Kernel.Facts] : Prop :=
  ∀ (m : (ℓ : Loc Cert.Kernel.nD Cert.Kernel.τ Cert.Kernel.sig) → Buf (Elt Bits) ℓ) (g : Dev Cert.Kernel.nD → PrngReg), Pre_Kernel_pi_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1032_Kernel [hKernel : Cert.Kernel.Facts] [hPre_pi_1032_Kernel : Cert.Pre_pi_1032_Kernel.Facts] : Prop :=
  ∀ (m : (ℓ : Loc Cert.Kernel.nD Cert.Kernel.τ Cert.Kernel.sig) → Buf (Elt Bits) ℓ) (g : Dev Cert.Kernel.nD → PrngReg), Pre_Kernel_pi_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1203_Kernel [hKernel : Cert.Kernel.Facts] [hPre_pi_1203_Kernel : Cert.Pre_pi_1203_Kernel.Facts] : Prop :=
  ∀ (m : (ℓ : Loc Cert.Kernel.nD Cert.Kernel.τ Cert.Kernel.sig) → Buf (Elt Bits) ℓ) (g : Dev Cert.Kernel.nD → PrngReg), Pre_Kernel_pi_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1230_Kernel [hKernel : Cert.Kernel.Facts] [hPre_pi_1230_Kernel : Cert.Pre_pi_1230_Kernel.Facts] : Prop :=
  ∀ (m : (ℓ : Loc Cert.Kernel.nD Cert.Kernel.τ Cert.Kernel.sig) → Buf (Elt Bits) ℓ) (g : Dev Cert.Kernel.nD → PrngReg), Pre_Kernel_pi_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1302_Kernel [hKernel : Cert.Kernel.Facts] [hPre_pi_1302_Kernel : Cert.Pre_pi_1302_Kernel.Facts] : Prop :=
  ∀ (m : (ℓ : Loc Cert.Kernel.nD Cert.Kernel.τ Cert.Kernel.sig) → Buf (Elt Bits) ℓ) (g : Dev Cert.Kernel.nD → PrngReg), Pre_Kernel_pi_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1320_Kernel [hKernel : Cert.Kernel.Facts] [hPre_pi_1320_Kernel : Cert.Pre_pi_1320_Kernel.Facts] : Prop :=
  ∀ (m : (ℓ : Loc Cert.Kernel.nD Cert.Kernel.τ Cert.Kernel.sig) → Buf (Elt Bits) ℓ) (g : Dev Cert.Kernel.nD → PrngReg), Pre_Kernel_pi_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2013_Kernel [hKernel : Cert.Kernel.Facts] [hPre_pi_2013_Kernel : Cert.Pre_pi_2013_Kernel.Facts] : Prop :=
  ∀ (m : (ℓ : Loc Cert.Kernel.nD Cert.Kernel.τ Cert.Kernel.sig) → Buf (Elt Bits) ℓ) (g : Dev Cert.Kernel.nD → PrngReg), Pre_Kernel_pi_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2031_Kernel [hKernel : Cert.Kernel.Facts] [hPre_pi_2031_Kernel : Cert.Pre_pi_2031_Kernel.Facts] : Prop :=
  ∀ (m : (ℓ : Loc Cert.Kernel.nD Cert.Kernel.τ Cert.Kernel.sig) → Buf (Elt Bits) ℓ) (g : Dev Cert.Kernel.nD → PrngReg), Pre_Kernel_pi_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2103_Kernel [hKernel : Cert.Kernel.Facts] [hPre_pi_2103_Kernel : Cert.Pre_pi_2103_Kernel.Facts] : Prop :=
  ∀ (m : (ℓ : Loc Cert.Kernel.nD Cert.Kernel.τ Cert.Kernel.sig) → Buf (Elt Bits) ℓ) (g : Dev Cert.Kernel.nD → PrngReg), Pre_Kernel_pi_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2130_Kernel [hKernel : Cert.Kernel.Facts] [hPre_pi_2130_Kernel : Cert.Pre_pi_2130_Kernel.Facts] : Prop :=
  ∀ (m : (ℓ : Loc Cert.Kernel.nD Cert.Kernel.τ Cert.Kernel.sig) → Buf (Elt Bits) ℓ) (g : Dev Cert.Kernel.nD → PrngReg), Pre_Kernel_pi_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2301_Kernel [hKernel : Cert.Kernel.Facts] [hPre_pi_2301_Kernel : Cert.Pre_pi_2301_Kernel.Facts] : Prop :=
  ∀ (m : (ℓ : Loc Cert.Kernel.nD Cert.Kernel.τ Cert.Kernel.sig) → Buf (Elt Bits) ℓ) (g : Dev Cert.Kernel.nD → PrngReg), Pre_Kernel_pi_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2310_Kernel [hKernel : Cert.Kernel.Facts] [hPre_pi_2310_Kernel : Cert.Pre_pi_2310_Kernel.Facts] : Prop :=
  ∀ (m : (ℓ : Loc Cert.Kernel.nD Cert.Kernel.τ Cert.Kernel.sig) → Buf (Elt Bits) ℓ) (g : Dev Cert.Kernel.nD → PrngReg), Pre_Kernel_pi_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3012_Kernel [hKernel : Cert.Kernel.Facts] [hPre_pi_3012_Kernel : Cert.Pre_pi_3012_Kernel.Facts] : Prop :=
  ∀ (m : (ℓ : Loc Cert.Kernel.nD Cert.Kernel.τ Cert.Kernel.sig) → Buf (Elt Bits) ℓ) (g : Dev Cert.Kernel.nD → PrngReg), Pre_Kernel_pi_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3021_Kernel [hKernel : Cert.Kernel.Facts] [hPre_pi_3021_Kernel : Cert.Pre_pi_3021_Kernel.Facts] : Prop :=
  ∀ (m : (ℓ : Loc Cert.Kernel.nD Cert.Kernel.τ Cert.Kernel.sig) → Buf (Elt Bits) ℓ) (g : Dev Cert.Kernel.nD → PrngReg), Pre_Kernel_pi_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3102_Kernel [hKernel : Cert.Kernel.Facts] [hPre_pi_3102_Kernel : Cert.Pre_pi_3102_Kernel.Facts] : Prop :=
  ∀ (m : (ℓ : Loc Cert.Kernel.nD Cert.Kernel.τ Cert.Kernel.sig) → Buf (Elt Bits) ℓ) (g : Dev Cert.Kernel.nD → PrngReg), Pre_Kernel_pi_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3120_Kernel [hKernel : Cert.Kernel.Facts] [hPre_pi_3120_Kernel : Cert.Pre_pi_3120_Kernel.Facts] : Prop :=
  ∀ (m : (ℓ : Loc Cert.Kernel.nD Cert.Kernel.τ Cert.Kernel.sig) → Buf (Elt Bits) ℓ) (g : Dev Cert.Kernel.nD → PrngReg), Pre_Kernel_pi_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3201_Kernel [hKernel : Cert.Kernel.Facts] [hPre_pi_3201_Kernel : Cert.Pre_pi_3201_Kernel.Facts] : Prop :=
  ∀ (m : (ℓ : Loc Cert.Kernel.nD Cert.Kernel.τ Cert.Kernel.sig) → Buf (Elt Bits) ℓ) (g : Dev Cert.Kernel.nD → PrngReg), Pre_Kernel_pi_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3210_Kernel [hKernel : Cert.Kernel.Facts] [hPre_pi_3210_Kernel : Cert.Pre_pi_3210_Kernel.Facts] : Prop :=
  ∀ (m : (ℓ : Loc Cert.Kernel.nD Cert.Kernel.τ Cert.Kernel.sig) → Buf (Elt Bits) ℓ) (g : Dev Cert.Kernel.nD → PrngReg), Pre_Kernel_pi_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_0123_Kernel : Cert.Pre_pi_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0132_Kernel [hKernelIdeal : Cert.KernelIdeal.Facts] [hPre_pi_0132_Kernel : Cert.Pre_pi_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0213_Kernel [hKernelIdeal : Cert.KernelIdeal.Facts] [hPre_pi_0213_Kernel : Cert.Pre_pi_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0231_Kernel [hKernelIdeal : Cert.KernelIdeal.Facts] [hPre_pi_0231_Kernel : Cert.Pre_pi_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0312_Kernel [hKernelIdeal : Cert.KernelIdeal.Facts] [hPre_pi_0312_Kernel : Cert.Pre_pi_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0321_Kernel [hKernelIdeal : Cert.KernelIdeal.Facts] [hPre_pi_0321_Kernel : Cert.Pre_pi_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1023_Kernel [hKernelIdeal : Cert.KernelIdeal.Facts] [hPre_pi_1023_Kernel : Cert.Pre_pi_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1032_Kernel [hKernelIdeal : Cert.KernelIdeal.Facts] [hPre_pi_1032_Kernel : Cert.Pre_pi_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1203_Kernel [hKernelIdeal : Cert.KernelIdeal.Facts] [hPre_pi_1203_Kernel : Cert.Pre_pi_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1230_Kernel [hKernelIdeal : Cert.KernelIdeal.Facts] [hPre_pi_1230_Kernel : Cert.Pre_pi_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1302_Kernel [hKernelIdeal : Cert.KernelIdeal.Facts] [hPre_pi_1302_Kernel : Cert.Pre_pi_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1320_Kernel [hKernelIdeal : Cert.KernelIdeal.Facts] [hPre_pi_1320_Kernel : Cert.Pre_pi_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2013_Kernel [hKernelIdeal : Cert.KernelIdeal.Facts] [hPre_pi_2013_Kernel : Cert.Pre_pi_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2031_Kernel [hKernelIdeal : Cert.KernelIdeal.Facts] [hPre_pi_2031_Kernel : Cert.Pre_pi_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2103_Kernel [hKernelIdeal : Cert.KernelIdeal.Facts] [hPre_pi_2103_Kernel : Cert.Pre_pi_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2130_Kernel [hKernelIdeal : Cert.KernelIdeal.Facts] [hPre_pi_2130_Kernel : Cert.Pre_pi_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2301_Kernel [hKernelIdeal : Cert.KernelIdeal.Facts] [hPre_pi_2301_Kernel : Cert.Pre_pi_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2310_Kernel [hKernelIdeal : Cert.KernelIdeal.Facts] [hPre_pi_2310_Kernel : Cert.Pre_pi_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3012_Kernel [hKernelIdeal : Cert.KernelIdeal.Facts] [hPre_pi_3012_Kernel : Cert.Pre_pi_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3021_Kernel [hKernelIdeal : Cert.KernelIdeal.Facts] [hPre_pi_3021_Kernel : Cert.Pre_pi_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3102_Kernel [hKernelIdeal : Cert.KernelIdeal.Facts] [hPre_pi_3102_Kernel : Cert.Pre_pi_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3120_Kernel [hKernelIdeal : Cert.KernelIdeal.Facts] [hPre_pi_3120_Kernel : Cert.Pre_pi_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3201_Kernel [hKernelIdeal : Cert.KernelIdeal.Facts] [hPre_pi_3201_Kernel : Cert.Pre_pi_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3210_Kernel [hKernelIdeal : Cert.KernelIdeal.Facts] [hPre_pi_3210_Kernel : Cert.Pre_pi_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_0123_Kernel : Cert.Pre_pi_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0132_Kernel [hKernelIdeal : Cert.KernelIdeal.Facts] [hReferenceIdeal : Cert.ReferenceIdeal.Facts] [hPre_pi_0132_Kernel : Cert.Pre_pi_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0132_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0213_Kernel [hKernelIdeal : Cert.KernelIdeal.Facts] [hReferenceIdeal : Cert.ReferenceIdeal.Facts] [hPre_pi_0213_Kernel : Cert.Pre_pi_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0213_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0231_Kernel [hKernelIdeal : Cert.KernelIdeal.Facts] [hReferenceIdeal : Cert.ReferenceIdeal.Facts] [hPre_pi_0231_Kernel : Cert.Pre_pi_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0231_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0312_Kernel [hKernelIdeal : Cert.KernelIdeal.Facts] [hReferenceIdeal : Cert.ReferenceIdeal.Facts] [hPre_pi_0312_Kernel : Cert.Pre_pi_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0312_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0321_Kernel [hKernelIdeal : Cert.KernelIdeal.Facts] [hReferenceIdeal : Cert.ReferenceIdeal.Facts] [hPre_pi_0321_Kernel : Cert.Pre_pi_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0321_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1023_Kernel [hKernelIdeal : Cert.KernelIdeal.Facts] [hReferenceIdeal : Cert.ReferenceIdeal.Facts] [hPre_pi_1023_Kernel : Cert.Pre_pi_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1023_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1032_Kernel [hKernelIdeal : Cert.KernelIdeal.Facts] [hReferenceIdeal : Cert.ReferenceIdeal.Facts] [hPre_pi_1032_Kernel : Cert.Pre_pi_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1032_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1203_Kernel [hKernelIdeal : Cert.KernelIdeal.Facts] [hReferenceIdeal : Cert.ReferenceIdeal.Facts] [hPre_pi_1203_Kernel : Cert.Pre_pi_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1203_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1230_Kernel [hKernelIdeal : Cert.KernelIdeal.Facts] [hReferenceIdeal : Cert.ReferenceIdeal.Facts] [hPre_pi_1230_Kernel : Cert.Pre_pi_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1230_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1302_Kernel [hKernelIdeal : Cert.KernelIdeal.Facts] [hReferenceIdeal : Cert.ReferenceIdeal.Facts] [hPre_pi_1302_Kernel : Cert.Pre_pi_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1302_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1320_Kernel [hKernelIdeal : Cert.KernelIdeal.Facts] [hReferenceIdeal : Cert.ReferenceIdeal.Facts] [hPre_pi_1320_Kernel : Cert.Pre_pi_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1320_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2013_Kernel [hKernelIdeal : Cert.KernelIdeal.Facts] [hReferenceIdeal : Cert.ReferenceIdeal.Facts] [hPre_pi_2013_Kernel : Cert.Pre_pi_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2013_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2031_Kernel [hKernelIdeal : Cert.KernelIdeal.Facts] [hReferenceIdeal : Cert.ReferenceIdeal.Facts] [hPre_pi_2031_Kernel : Cert.Pre_pi_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2031_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2103_Kernel [hKernelIdeal : Cert.KernelIdeal.Facts] [hReferenceIdeal : Cert.ReferenceIdeal.Facts] [hPre_pi_2103_Kernel : Cert.Pre_pi_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2103_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2130_Kernel [hKernelIdeal : Cert.KernelIdeal.Facts] [hReferenceIdeal : Cert.ReferenceIdeal.Facts] [hPre_pi_2130_Kernel : Cert.Pre_pi_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2130_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2301_Kernel [hKernelIdeal : Cert.KernelIdeal.Facts] [hReferenceIdeal : Cert.ReferenceIdeal.Facts] [hPre_pi_2301_Kernel : Cert.Pre_pi_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2301_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2310_Kernel [hKernelIdeal : Cert.KernelIdeal.Facts] [hReferenceIdeal : Cert.ReferenceIdeal.Facts] [hPre_pi_2310_Kernel : Cert.Pre_pi_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2310_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3012_Kernel [hKernelIdeal : Cert.KernelIdeal.Facts] [hReferenceIdeal : Cert.ReferenceIdeal.Facts] [hPre_pi_3012_Kernel : Cert.Pre_pi_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3012_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3021_Kernel [hKernelIdeal : Cert.KernelIdeal.Facts] [hReferenceIdeal : Cert.ReferenceIdeal.Facts] [hPre_pi_3021_Kernel : Cert.Pre_pi_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3021_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3102_Kernel [hKernelIdeal : Cert.KernelIdeal.Facts] [hReferenceIdeal : Cert.ReferenceIdeal.Facts] [hPre_pi_3102_Kernel : Cert.Pre_pi_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3102_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3120_Kernel [hKernelIdeal : Cert.KernelIdeal.Facts] [hReferenceIdeal : Cert.ReferenceIdeal.Facts] [hPre_pi_3120_Kernel : Cert.Pre_pi_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3120_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3201_Kernel [hKernelIdeal : Cert.KernelIdeal.Facts] [hReferenceIdeal : Cert.ReferenceIdeal.Facts] [hPre_pi_3201_Kernel : Cert.Pre_pi_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3201_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3210_Kernel [hKernelIdeal : Cert.KernelIdeal.Facts] [hReferenceIdeal : Cert.ReferenceIdeal.Facts] [hPre_pi_3210_Kernel : Cert.Pre_pi_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3210_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hReferenceIdeal : Cert.ReferenceIdeal.Facts) (hKernel : Cert.Kernel.Facts) (hKernelIdeal : Cert.KernelIdeal.Facts) (hPre_pi_0123_ReferenceIdeal : Cert.Pre_pi_0123_ReferenceIdeal.Facts) (hPre_pi_0132_ReferenceIdeal : Cert.Pre_pi_0132_ReferenceIdeal.Facts) (hPre_pi_0213_ReferenceIdeal : Cert.Pre_pi_0213_ReferenceIdeal.Facts) (hPre_pi_0231_ReferenceIdeal : Cert.Pre_pi_0231_ReferenceIdeal.Facts) (hPre_pi_0312_ReferenceIdeal : Cert.Pre_pi_0312_ReferenceIdeal.Facts) (hPre_pi_0321_ReferenceIdeal : Cert.Pre_pi_0321_ReferenceIdeal.Facts) (hPre_pi_1023_ReferenceIdeal : Cert.Pre_pi_1023_ReferenceIdeal.Facts) (hPre_pi_1032_ReferenceIdeal : Cert.Pre_pi_1032_ReferenceIdeal.Facts) (hPre_pi_1203_ReferenceIdeal : Cert.Pre_pi_1203_ReferenceIdeal.Facts) (hPre_pi_1230_ReferenceIdeal : Cert.Pre_pi_1230_ReferenceIdeal.Facts) (hPre_pi_1302_ReferenceIdeal : Cert.Pre_pi_1302_ReferenceIdeal.Facts) (hPre_pi_1320_ReferenceIdeal : Cert.Pre_pi_1320_ReferenceIdeal.Facts) (hPre_pi_2013_ReferenceIdeal : Cert.Pre_pi_2013_ReferenceIdeal.Facts) (hPre_pi_2031_ReferenceIdeal : Cert.Pre_pi_2031_ReferenceIdeal.Facts) (hPre_pi_2103_ReferenceIdeal : Cert.Pre_pi_2103_ReferenceIdeal.Facts) (hPre_pi_2130_ReferenceIdeal : Cert.Pre_pi_2130_ReferenceIdeal.Facts) (hPre_pi_2301_ReferenceIdeal : Cert.Pre_pi_2301_ReferenceIdeal.Facts) (hPre_pi_2310_ReferenceIdeal : Cert.Pre_pi_2310_ReferenceIdeal.Facts) (hPre_pi_3012_ReferenceIdeal : Cert.Pre_pi_3012_ReferenceIdeal.Facts) (hPre_pi_3021_ReferenceIdeal : Cert.Pre_pi_3021_ReferenceIdeal.Facts) (hPre_pi_3102_ReferenceIdeal : Cert.Pre_pi_3102_ReferenceIdeal.Facts) (hPre_pi_3120_ReferenceIdeal : Cert.Pre_pi_3120_ReferenceIdeal.Facts) (hPre_pi_3201_ReferenceIdeal : Cert.Pre_pi_3201_ReferenceIdeal.Facts) (hPre_pi_3210_ReferenceIdeal : Cert.Pre_pi_3210_ReferenceIdeal.Facts) (hPre_pi_0123_Kernel : Cert.Pre_pi_0123_Kernel.Facts) (hPre_pi_0132_Kernel : Cert.Pre_pi_0132_Kernel.Facts) (hPre_pi_0213_Kernel : Cert.Pre_pi_0213_Kernel.Facts) (hPre_pi_0231_Kernel : Cert.Pre_pi_0231_Kernel.Facts) (hPre_pi_0312_Kernel : Cert.Pre_pi_0312_Kernel.Facts) (hPre_pi_0321_Kernel : Cert.Pre_pi_0321_Kernel.Facts) (hPre_pi_1023_Kernel : Cert.Pre_pi_1023_Kernel.Facts) (hPre_pi_1032_Kernel : Cert.Pre_pi_1032_Kernel.Facts) (hPre_pi_1203_Kernel : Cert.Pre_pi_1203_Kernel.Facts) (hPre_pi_1230_Kernel : Cert.Pre_pi_1230_Kernel.Facts) (hPre_pi_1302_Kernel : Cert.Pre_pi_1302_Kernel.Facts) (hPre_pi_1320_Kernel : Cert.Pre_pi_1320_Kernel.Facts) (hPre_pi_2013_Kernel : Cert.Pre_pi_2013_Kernel.Facts) (hPre_pi_2031_Kernel : Cert.Pre_pi_2031_Kernel.Facts) (hPre_pi_2103_Kernel : Cert.Pre_pi_2103_Kernel.Facts) (hPre_pi_2130_Kernel : Cert.Pre_pi_2130_Kernel.Facts) (hPre_pi_2301_Kernel : Cert.Pre_pi_2301_Kernel.Facts) (hPre_pi_2310_Kernel : Cert.Pre_pi_2310_Kernel.Facts) (hPre_pi_3012_Kernel : Cert.Pre_pi_3012_Kernel.Facts) (hPre_pi_3021_Kernel : Cert.Pre_pi_3021_Kernel.Facts) (hPre_pi_3102_Kernel : Cert.Pre_pi_3102_Kernel.Facts) (hPre_pi_3120_Kernel : Cert.Pre_pi_3120_Kernel.Facts) (hPre_pi_3201_Kernel : Cert.Pre_pi_3201_Kernel.Facts) (hPre_pi_3210_Kernel : Cert.Pre_pi_3210_Kernel.Facts),
    quiescent_ReferenceIdeal (hReferenceIdeal := hReferenceIdeal)
    ∧ quiescent_ReferenceIdeal_pre_pi_0123_ReferenceIdeal (hReferenceIdeal := hReferenceIdeal) (hPre_pi_0123_ReferenceIdeal := hPre_pi_0123_ReferenceIdeal)
    ∧ quiescent_ReferenceIdeal_pre_pi_0132_ReferenceIdeal (hReferenceIdeal := hReferenceIdeal) (hPre_pi_0132_ReferenceIdeal := hPre_pi_0132_ReferenceIdeal)
    ∧ quiescent_ReferenceIdeal_pre_pi_0213_ReferenceIdeal (hReferenceIdeal := hReferenceIdeal) (hPre_pi_0213_ReferenceIdeal := hPre_pi_0213_ReferenceIdeal)
    ∧ quiescent_ReferenceIdeal_pre_pi_0231_ReferenceIdeal (hReferenceIdeal := hReferenceIdeal) (hPre_pi_0231_ReferenceIdeal := hPre_pi_0231_ReferenceIdeal)
    ∧ quiescent_ReferenceIdeal_pre_pi_0312_ReferenceIdeal (hReferenceIdeal := hReferenceIdeal) (hPre_pi_0312_ReferenceIdeal := hPre_pi_0312_ReferenceIdeal)
    ∧ quiescent_ReferenceIdeal_pre_pi_0321_ReferenceIdeal (hReferenceIdeal := hReferenceIdeal) (hPre_pi_0321_ReferenceIdeal := hPre_pi_0321_ReferenceIdeal)
    ∧ quiescent_ReferenceIdeal_pre_pi_1023_ReferenceIdeal (hReferenceIdeal := hReferenceIdeal) (hPre_pi_1023_ReferenceIdeal := hPre_pi_1023_ReferenceIdeal)
    ∧ quiescent_ReferenceIdeal_pre_pi_1032_ReferenceIdeal (hReferenceIdeal := hReferenceIdeal) (hPre_pi_1032_ReferenceIdeal := hPre_pi_1032_ReferenceIdeal)
    ∧ quiescent_ReferenceIdeal_pre_pi_1203_ReferenceIdeal (hReferenceIdeal := hReferenceIdeal) (hPre_pi_1203_ReferenceIdeal := hPre_pi_1203_ReferenceIdeal)
    ∧ quiescent_ReferenceIdeal_pre_pi_1230_ReferenceIdeal (hReferenceIdeal := hReferenceIdeal) (hPre_pi_1230_ReferenceIdeal := hPre_pi_1230_ReferenceIdeal)
    ∧ quiescent_ReferenceIdeal_pre_pi_1302_ReferenceIdeal (hReferenceIdeal := hReferenceIdeal) (hPre_pi_1302_ReferenceIdeal := hPre_pi_1302_ReferenceIdeal)
    ∧ quiescent_ReferenceIdeal_pre_pi_1320_ReferenceIdeal (hReferenceIdeal := hReferenceIdeal) (hPre_pi_1320_ReferenceIdeal := hPre_pi_1320_ReferenceIdeal)
    ∧ quiescent_ReferenceIdeal_pre_pi_2013_ReferenceIdeal (hReferenceIdeal := hReferenceIdeal) (hPre_pi_2013_ReferenceIdeal := hPre_pi_2013_ReferenceIdeal)
    ∧ quiescent_ReferenceIdeal_pre_pi_2031_ReferenceIdeal (hReferenceIdeal := hReferenceIdeal) (hPre_pi_2031_ReferenceIdeal := hPre_pi_2031_ReferenceIdeal)
    ∧ quiescent_ReferenceIdeal_pre_pi_2103_ReferenceIdeal (hReferenceIdeal := hReferenceIdeal) (hPre_pi_2103_ReferenceIdeal := hPre_pi_2103_ReferenceIdeal)
    ∧ quiescent_ReferenceIdeal_pre_pi_2130_ReferenceIdeal (hReferenceIdeal := hReferenceIdeal) (hPre_pi_2130_ReferenceIdeal := hPre_pi_2130_ReferenceIdeal)
    ∧ quiescent_ReferenceIdeal_pre_pi_2301_ReferenceIdeal (hReferenceIdeal := hReferenceIdeal) (hPre_pi_2301_ReferenceIdeal := hPre_pi_2301_ReferenceIdeal)
    ∧ quiescent_ReferenceIdeal_pre_pi_2310_ReferenceIdeal (hReferenceIdeal := hReferenceIdeal) (hPre_pi_2310_ReferenceIdeal := hPre_pi_2310_ReferenceIdeal)
    ∧ quiescent_ReferenceIdeal_pre_pi_3012_ReferenceIdeal (hReferenceIdeal := hReferenceIdeal) (hPre_pi_3012_ReferenceIdeal := hPre_pi_3012_ReferenceIdeal)
    ∧ quiescent_ReferenceIdeal_pre_pi_3021_ReferenceIdeal (hReferenceIdeal := hReferenceIdeal) (hPre_pi_3021_ReferenceIdeal := hPre_pi_3021_ReferenceIdeal)
    ∧ quiescent_ReferenceIdeal_pre_pi_3102_ReferenceIdeal (hReferenceIdeal := hReferenceIdeal) (hPre_pi_3102_ReferenceIdeal := hPre_pi_3102_ReferenceIdeal)
    ∧ quiescent_ReferenceIdeal_pre_pi_3120_ReferenceIdeal (hReferenceIdeal := hReferenceIdeal) (hPre_pi_3120_ReferenceIdeal := hPre_pi_3120_ReferenceIdeal)
    ∧ quiescent_ReferenceIdeal_pre_pi_3201_ReferenceIdeal (hReferenceIdeal := hReferenceIdeal) (hPre_pi_3201_ReferenceIdeal := hPre_pi_3201_ReferenceIdeal)
    ∧ quiescent_ReferenceIdeal_pre_pi_3210_ReferenceIdeal (hReferenceIdeal := hReferenceIdeal) (hPre_pi_3210_ReferenceIdeal := hPre_pi_3210_ReferenceIdeal)
    ∧ quiescent_Kernel (hKernel := hKernel) (hPre_pi_0123_Kernel := hPre_pi_0123_Kernel)
    ∧ quiescent_Kernel_pre_pi_0132_Kernel (hKernel := hKernel) (hPre_pi_0132_Kernel := hPre_pi_0132_Kernel)
    ∧ quiescent_Kernel_pre_pi_0213_Kernel (hKernel := hKernel) (hPre_pi_0213_Kernel := hPre_pi_0213_Kernel)
    ∧ quiescent_Kernel_pre_pi_0231_Kernel (hKernel := hKernel) (hPre_pi_0231_Kernel := hPre_pi_0231_Kernel)
    ∧ quiescent_Kernel_pre_pi_0312_Kernel (hKernel := hKernel) (hPre_pi_0312_Kernel := hPre_pi_0312_Kernel)
    ∧ quiescent_Kernel_pre_pi_0321_Kernel (hKernel := hKernel) (hPre_pi_0321_Kernel := hPre_pi_0321_Kernel)
    ∧ quiescent_Kernel_pre_pi_1023_Kernel (hKernel := hKernel) (hPre_pi_1023_Kernel := hPre_pi_1023_Kernel)
    ∧ quiescent_Kernel_pre_pi_1032_Kernel (hKernel := hKernel) (hPre_pi_1032_Kernel := hPre_pi_1032_Kernel)
    ∧ quiescent_Kernel_pre_pi_1203_Kernel (hKernel := hKernel) (hPre_pi_1203_Kernel := hPre_pi_1203_Kernel)
    ∧ quiescent_Kernel_pre_pi_1230_Kernel (hKernel := hKernel) (hPre_pi_1230_Kernel := hPre_pi_1230_Kernel)
    ∧ quiescent_Kernel_pre_pi_1302_Kernel (hKernel := hKernel) (hPre_pi_1302_Kernel := hPre_pi_1302_Kernel)
    ∧ quiescent_Kernel_pre_pi_1320_Kernel (hKernel := hKernel) (hPre_pi_1320_Kernel := hPre_pi_1320_Kernel)
    ∧ quiescent_Kernel_pre_pi_2013_Kernel (hKernel := hKernel) (hPre_pi_2013_Kernel := hPre_pi_2013_Kernel)
    ∧ quiescent_Kernel_pre_pi_2031_Kernel (hKernel := hKernel) (hPre_pi_2031_Kernel := hPre_pi_2031_Kernel)
    ∧ quiescent_Kernel_pre_pi_2103_Kernel (hKernel := hKernel) (hPre_pi_2103_Kernel := hPre_pi_2103_Kernel)
    ∧ quiescent_Kernel_pre_pi_2130_Kernel (hKernel := hKernel) (hPre_pi_2130_Kernel := hPre_pi_2130_Kernel)
    ∧ quiescent_Kernel_pre_pi_2301_Kernel (hKernel := hKernel) (hPre_pi_2301_Kernel := hPre_pi_2301_Kernel)
    ∧ quiescent_Kernel_pre_pi_2310_Kernel (hKernel := hKernel) (hPre_pi_2310_Kernel := hPre_pi_2310_Kernel)
    ∧ quiescent_Kernel_pre_pi_3012_Kernel (hKernel := hKernel) (hPre_pi_3012_Kernel := hPre_pi_3012_Kernel)
    ∧ quiescent_Kernel_pre_pi_3021_Kernel (hKernel := hKernel) (hPre_pi_3021_Kernel := hPre_pi_3021_Kernel)
    ∧ quiescent_Kernel_pre_pi_3102_Kernel (hKernel := hKernel) (hPre_pi_3102_Kernel := hPre_pi_3102_Kernel)
    ∧ quiescent_Kernel_pre_pi_3120_Kernel (hKernel := hKernel) (hPre_pi_3120_Kernel := hPre_pi_3120_Kernel)
    ∧ quiescent_Kernel_pre_pi_3201_Kernel (hKernel := hKernel) (hPre_pi_3201_Kernel := hPre_pi_3201_Kernel)
    ∧ quiescent_Kernel_pre_pi_3210_Kernel (hKernel := hKernel) (hPre_pi_3210_Kernel := hPre_pi_3210_Kernel)
    ∧ quiescent_KernelIdeal (hKernelIdeal := hKernelIdeal) (hPre_pi_0123_Kernel := hPre_pi_0123_Kernel)
    ∧ quiescent_KernelIdeal_pre_pi_0132_Kernel (hKernelIdeal := hKernelIdeal) (hPre_pi_0132_Kernel := hPre_pi_0132_Kernel)
    ∧ quiescent_KernelIdeal_pre_pi_0213_Kernel (hKernelIdeal := hKernelIdeal) (hPre_pi_0213_Kernel := hPre_pi_0213_Kernel)
    ∧ quiescent_KernelIdeal_pre_pi_0231_Kernel (hKernelIdeal := hKernelIdeal) (hPre_pi_0231_Kernel := hPre_pi_0231_Kernel)
    ∧ quiescent_KernelIdeal_pre_pi_0312_Kernel (hKernelIdeal := hKernelIdeal) (hPre_pi_0312_Kernel := hPre_pi_0312_Kernel)
    ∧ quiescent_KernelIdeal_pre_pi_0321_Kernel (hKernelIdeal := hKernelIdeal) (hPre_pi_0321_Kernel := hPre_pi_0321_Kernel)
    ∧ quiescent_KernelIdeal_pre_pi_1023_Kernel (hKernelIdeal := hKernelIdeal) (hPre_pi_1023_Kernel := hPre_pi_1023_Kernel)
    ∧ quiescent_KernelIdeal_pre_pi_1032_Kernel (hKernelIdeal := hKernelIdeal) (hPre_pi_1032_Kernel := hPre_pi_1032_Kernel)
    ∧ quiescent_KernelIdeal_pre_pi_1203_Kernel (hKernelIdeal := hKernelIdeal) (hPre_pi_1203_Kernel := hPre_pi_1203_Kernel)
    ∧ quiescent_KernelIdeal_pre_pi_1230_Kernel (hKernelIdeal := hKernelIdeal) (hPre_pi_1230_Kernel := hPre_pi_1230_Kernel)
    ∧ quiescent_KernelIdeal_pre_pi_1302_Kernel (hKernelIdeal := hKernelIdeal) (hPre_pi_1302_Kernel := hPre_pi_1302_Kernel)
    ∧ quiescent_KernelIdeal_pre_pi_1320_Kernel (hKernelIdeal := hKernelIdeal) (hPre_pi_1320_Kernel := hPre_pi_1320_Kernel)
    ∧ quiescent_KernelIdeal_pre_pi_2013_Kernel (hKernelIdeal := hKernelIdeal) (hPre_pi_2013_Kernel := hPre_pi_2013_Kernel)
    ∧ quiescent_KernelIdeal_pre_pi_2031_Kernel (hKernelIdeal := hKernelIdeal) (hPre_pi_2031_Kernel := hPre_pi_2031_Kernel)
    ∧ quiescent_KernelIdeal_pre_pi_2103_Kernel (hKernelIdeal := hKernelIdeal) (hPre_pi_2103_Kernel := hPre_pi_2103_Kernel)
    ∧ quiescent_KernelIdeal_pre_pi_2130_Kernel (hKernelIdeal := hKernelIdeal) (hPre_pi_2130_Kernel := hPre_pi_2130_Kernel)
    ∧ quiescent_KernelIdeal_pre_pi_2301_Kernel (hKernelIdeal := hKernelIdeal) (hPre_pi_2301_Kernel := hPre_pi_2301_Kernel)
    ∧ quiescent_KernelIdeal_pre_pi_2310_Kernel (hKernelIdeal := hKernelIdeal) (hPre_pi_2310_Kernel := hPre_pi_2310_Kernel)
    ∧ quiescent_KernelIdeal_pre_pi_3012_Kernel (hKernelIdeal := hKernelIdeal) (hPre_pi_3012_Kernel := hPre_pi_3012_Kernel)
    ∧ quiescent_KernelIdeal_pre_pi_3021_Kernel (hKernelIdeal := hKernelIdeal) (hPre_pi_3021_Kernel := hPre_pi_3021_Kernel)
    ∧ quiescent_KernelIdeal_pre_pi_3102_Kernel (hKernelIdeal := hKernelIdeal) (hPre_pi_3102_Kernel := hPre_pi_3102_Kernel)
    ∧ quiescent_KernelIdeal_pre_pi_3120_Kernel (hKernelIdeal := hKernelIdeal) (hPre_pi_3120_Kernel := hPre_pi_3120_Kernel)
    ∧ quiescent_KernelIdeal_pre_pi_3201_Kernel (hKernelIdeal := hKernelIdeal) (hPre_pi_3201_Kernel := hPre_pi_3201_Kernel)
    ∧ quiescent_KernelIdeal_pre_pi_3210_Kernel (hKernelIdeal := hKernelIdeal) (hPre_pi_3210_Kernel := hPre_pi_3210_Kernel)
    ∧ preserves_Kernel_KernelIdeal
    ∧ algebraic_KernelIdeal_ReferenceIdeal (hKernelIdeal := hKernelIdeal) (hReferenceIdeal := hReferenceIdeal) (hPre_pi_0123_Kernel := hPre_pi_0123_Kernel)
    ∧ algebraic_KernelIdeal_ReferenceIdeal_pre_pi_0132_Kernel (hKernelIdeal := hKernelIdeal) (hReferenceIdeal := hReferenceIdeal) (hPre_pi_0132_Kernel := hPre_pi_0132_Kernel)
    ∧ algebraic_KernelIdeal_ReferenceIdeal_pre_pi_0213_Kernel (hKernelIdeal := hKernelIdeal) (hReferenceIdeal := hReferenceIdeal) (hPre_pi_0213_Kernel := hPre_pi_0213_Kernel)
    ∧ algebraic_KernelIdeal_ReferenceIdeal_pre_pi_0231_Kernel (hKernelIdeal := hKernelIdeal) (hReferenceIdeal := hReferenceIdeal) (hPre_pi_0231_Kernel := hPre_pi_0231_Kernel)
    ∧ algebraic_KernelIdeal_ReferenceIdeal_pre_pi_0312_Kernel (hKernelIdeal := hKernelIdeal) (hReferenceIdeal := hReferenceIdeal) (hPre_pi_0312_Kernel := hPre_pi_0312_Kernel)
    ∧ algebraic_KernelIdeal_ReferenceIdeal_pre_pi_0321_Kernel (hKernelIdeal := hKernelIdeal) (hReferenceIdeal := hReferenceIdeal) (hPre_pi_0321_Kernel := hPre_pi_0321_Kernel)
    ∧ algebraic_KernelIdeal_ReferenceIdeal_pre_pi_1023_Kernel (hKernelIdeal := hKernelIdeal) (hReferenceIdeal := hReferenceIdeal) (hPre_pi_1023_Kernel := hPre_pi_1023_Kernel)
    ∧ algebraic_KernelIdeal_ReferenceIdeal_pre_pi_1032_Kernel (hKernelIdeal := hKernelIdeal) (hReferenceIdeal := hReferenceIdeal) (hPre_pi_1032_Kernel := hPre_pi_1032_Kernel)
    ∧ algebraic_KernelIdeal_ReferenceIdeal_pre_pi_1203_Kernel (hKernelIdeal := hKernelIdeal) (hReferenceIdeal := hReferenceIdeal) (hPre_pi_1203_Kernel := hPre_pi_1203_Kernel)
    ∧ algebraic_KernelIdeal_ReferenceIdeal_pre_pi_1230_Kernel (hKernelIdeal := hKernelIdeal) (hReferenceIdeal := hReferenceIdeal) (hPre_pi_1230_Kernel := hPre_pi_1230_Kernel)
    ∧ algebraic_KernelIdeal_ReferenceIdeal_pre_pi_1302_Kernel (hKernelIdeal := hKernelIdeal) (hReferenceIdeal := hReferenceIdeal) (hPre_pi_1302_Kernel := hPre_pi_1302_Kernel)
    ∧ algebraic_KernelIdeal_ReferenceIdeal_pre_pi_1320_Kernel (hKernelIdeal := hKernelIdeal) (hReferenceIdeal := hReferenceIdeal) (hPre_pi_1320_Kernel := hPre_pi_1320_Kernel)
    ∧ algebraic_KernelIdeal_ReferenceIdeal_pre_pi_2013_Kernel (hKernelIdeal := hKernelIdeal) (hReferenceIdeal := hReferenceIdeal) (hPre_pi_2013_Kernel := hPre_pi_2013_Kernel)
    ∧ algebraic_KernelIdeal_ReferenceIdeal_pre_pi_2031_Kernel (hKernelIdeal := hKernelIdeal) (hReferenceIdeal := hReferenceIdeal) (hPre_pi_2031_Kernel := hPre_pi_2031_Kernel)
    ∧ algebraic_KernelIdeal_ReferenceIdeal_pre_pi_2103_Kernel (hKernelIdeal := hKernelIdeal) (hReferenceIdeal := hReferenceIdeal) (hPre_pi_2103_Kernel := hPre_pi_2103_Kernel)
    ∧ algebraic_KernelIdeal_ReferenceIdeal_pre_pi_2130_Kernel (hKernelIdeal := hKernelIdeal) (hReferenceIdeal := hReferenceIdeal) (hPre_pi_2130_Kernel := hPre_pi_2130_Kernel)
    ∧ algebraic_KernelIdeal_ReferenceIdeal_pre_pi_2301_Kernel (hKernelIdeal := hKernelIdeal) (hReferenceIdeal := hReferenceIdeal) (hPre_pi_2301_Kernel := hPre_pi_2301_Kernel)
    ∧ algebraic_KernelIdeal_ReferenceIdeal_pre_pi_2310_Kernel (hKernelIdeal := hKernelIdeal) (hReferenceIdeal := hReferenceIdeal) (hPre_pi_2310_Kernel := hPre_pi_2310_Kernel)
    ∧ algebraic_KernelIdeal_ReferenceIdeal_pre_pi_3012_Kernel (hKernelIdeal := hKernelIdeal) (hReferenceIdeal := hReferenceIdeal) (hPre_pi_3012_Kernel := hPre_pi_3012_Kernel)
    ∧ algebraic_KernelIdeal_ReferenceIdeal_pre_pi_3021_Kernel (hKernelIdeal := hKernelIdeal) (hReferenceIdeal := hReferenceIdeal) (hPre_pi_3021_Kernel := hPre_pi_3021_Kernel)
    ∧ algebraic_KernelIdeal_ReferenceIdeal_pre_pi_3102_Kernel (hKernelIdeal := hKernelIdeal) (hReferenceIdeal := hReferenceIdeal) (hPre_pi_3102_Kernel := hPre_pi_3102_Kernel)
    ∧ algebraic_KernelIdeal_ReferenceIdeal_pre_pi_3120_Kernel (hKernelIdeal := hKernelIdeal) (hReferenceIdeal := hReferenceIdeal) (hPre_pi_3120_Kernel := hPre_pi_3120_Kernel)
    ∧ algebraic_KernelIdeal_ReferenceIdeal_pre_pi_3201_Kernel (hKernelIdeal := hKernelIdeal) (hReferenceIdeal := hReferenceIdeal) (hPre_pi_3201_Kernel := hPre_pi_3201_Kernel)
    ∧ algebraic_KernelIdeal_ReferenceIdeal_pre_pi_3210_Kernel (hKernelIdeal := hKernelIdeal) (hReferenceIdeal := hReferenceIdeal) (hPre_pi_3210_Kernel := hPre_pi_3210_Kernel)
-- ==== Pre_pi_0123_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 1#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 2#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 3#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_0123_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 1#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 2#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 3#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_0132_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 1#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 3#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 2#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_0132_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 1#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 3#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 2#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_0213_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 2#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 1#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 3#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_0213_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 2#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 1#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 3#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_0231_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 2#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 3#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 1#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_0231_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 2#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 3#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 1#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_0312_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 3#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 1#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 2#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_0312_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 3#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 1#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 2#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_0321_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 3#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 2#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 1#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_0321_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 3#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 2#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 1#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_1023_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 1#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 0#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 2#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 3#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_1023_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 1#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 0#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 2#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 3#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_1032_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 1#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 0#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 3#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 2#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_1032_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 1#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 0#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 3#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 2#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_1203_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 1#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 2#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 0#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 3#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_1203_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 1#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 2#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 0#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 3#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_1230_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 1#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 2#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 3#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 0#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_1230_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 1#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 2#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 3#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 0#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_1302_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 1#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 3#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 0#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 2#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_1302_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 1#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 3#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 0#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 2#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_1320_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 1#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 3#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 2#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 0#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_1320_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 1#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 3#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 2#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 0#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_2013_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 2#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 0#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 1#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 3#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_2013_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 2#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 0#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 1#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 3#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_2031_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 2#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 0#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 3#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 1#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_2031_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 2#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 0#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 3#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 1#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_2103_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 2#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 1#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 0#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 3#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_2103_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 2#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 1#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 0#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 3#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_2130_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 2#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 1#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 3#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 0#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_2130_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 2#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 1#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 3#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 0#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_2301_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 2#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 3#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 0#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 1#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_2301_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 2#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 3#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 0#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 1#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_2310_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 2#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 3#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 1#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 0#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_2310_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 2#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 3#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 1#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 0#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_3012_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 3#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 0#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 1#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 2#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_3012_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 3#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 0#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 1#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 2#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_3021_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 3#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 0#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 2#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 1#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_3021_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 3#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 0#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 2#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 1#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_3102_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 3#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 1#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 0#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 2#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_3102_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 3#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 1#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 0#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 2#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_3120_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 3#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 1#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 2#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 0#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_3120_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 3#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 1#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 2#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 0#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_3201_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 3#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 2#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 0#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 1#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_3201_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 3#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 2#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 0#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 1#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_3210_Kernel.lean ====
abbrev S1x256x256 : Shape := ⟨3, ![1, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S1x256x256 .bf16) (main_arg1 : IVec S4 32) : IVec S1 1 :=
  let main_v0 : IVec S1 32 := (extractStridedSlice S1 ![0] · slices_S4_S1_0) main_arg1
  let main_c : IVec S_ 32 := constantI S_ 32 3#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 2#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 1#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 0#32
  let main_v12 : IVec S1 32 := broadcastInDim S1 ![] bcast_S_S1 main_c_2
  let main_v13 : IVec S1 1 := cmpi .eq main_v11 main_v12
  let main_v14 : IVec S1 1 := andi main_v10 main_v13
  main_v14
-- ==== Pre_pi_3210_ReferenceIdeal.lean ====
abbrev S4x256x256 : Shape := ⟨3, ![4, 256, 256]⟩
abbrev S4 : Shape := ⟨1, ![4]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)
  slices_S4_S1_1 : S4.Slices ![1] S1
  slices_S4_S1_2 : S4.Slices ![2] S1
  slices_S4_S1_3 : S4.Slices ![3] S1

variable [Facts]

def fn {F : FTy → Type} [FloatOps F] (main_arg0 : FVec F S4x256x256 .bf16) (main_arg1 : IVec S4 32) : IVec S1 1 :=
  let main_v0 : IVec S1 32 := (extractStridedSlice S1 ![0] · slices_S4_S1_0) main_arg1
  let main_c : IVec S_ 32 := constantI S_ 32 3#32
  let main_v1 : IVec S1 32 := broadcastInDim S1 ![] bcast_S_S1 main_c
  let main_v2 : IVec S1 1 := cmpi .eq main_v0 main_v1
  let main_v3 : IVec S1 32 := (extractStridedSlice S1 ![1] · slices_S4_S1_1) main_arg1
  let main_c_0 : IVec S_ 32 := constantI S_ 32 2#32
  let main_v4 : IVec S1 32 := broadcastInDim S1 ![] bcast_S_S1 main_c_0
  let main_v5 : IVec S1 1 := cmpi .eq main_v3 main_v4
  let main_v6 : IVec S1 1 := andi main_v2 main_v5
  let main_v7 : IVec S1 32 := (extractStridedSlice S1 ![2] · slices_S4_S1_2) main_arg1
  let main_c_1 : IVec S_ 32 := constantI S_ 32 1#32
  let main_v8 : IVec S1 32 := broadcastInDim S1 ![] bcast_S_S1 main_c_1
  let main_v9 : IVec S1 1 := cmpi .eq main_v7 main_v8
  let main_v10 : IVec S1 1 := andi main_v6 main_v9
  let main_v11 : IVec S1 32 := (extractStridedSlice S1 ![3] · slices_S4_S1_3) main_arg1
  let main_c_2 : IVec S_ 32 := constantI S_ 32 0#32
  let main_v12 : IVec S1 32 := broadcastInDim S1 ![] bcast_S_S1 main_c_2
  let main_v13 : IVec S1 1 := cmpi .eq main_v11 main_v12
  let main_v14 : IVec S1 1 := andi main_v10 main_v13
  main_v14
-- ==== ReferenceIdeal.lean ====
abbrev S4x256x256 : Shape := ⟨3, ![4, 256, 256]⟩
abbrev S4 : Shape := ⟨1, ![4]⟩
abbrev S_ : Shape := ⟨0, ![]⟩
abbrev S4x1 : Shape := ⟨2, ![4, 1]⟩

abbrev nBuf : Space → Nat
  | .hbm => 16
  | .vmem => 0
  | .smem => 0
  | _ => 0

abbrev bufTy : (tb : Table) → Fin (tcTables nBuf tb) → BufTy
  | .hbm, ⟨0, _⟩ => ⟨S4x256x256, .bf16⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x256x256, .bf16⟩
  | .hbm, ⟨14, _⟩ => ⟨S4x256x256, .f32⟩
  | .hbm, ⟨15, _⟩ => ⟨S4x256x256, .bf16⟩
  | _, _ => ⟨S4x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel.lean ====
abbrev S1x256x256 : Shape := ⟨3, ![1, 256, 256]⟩
abbrev S4 : Shape := ⟨1, ![4]⟩
abbrev S_ : Shape := ⟨0, ![]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S1x256x256, .bf16⟩
  | .hbm, ⟨1, _⟩ => ⟨S4, .i32⟩
  | .hbm, ⟨2, _⟩ => ⟨S1x256x256, .bf16⟩
  | .local _ .vmem, ⟨0, _⟩ => ⟨S1x256x256, .bf16⟩
  | .local _ .vmem, ⟨1, _⟩ => ⟨S1x256x256, .bf16⟩
  | .local _ .smem, ⟨0, _⟩ => ⟨S4, .i32⟩
  | _, _ => ⟨S1x256x256, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : Index := Scalar.indexCast v8
  ![v9.toNat]
def k0_dev1 (d0 : Dev nD) (v11 : BitVec 32) (v14 : BitVec 32) (v17 : BitVec 32) (v20 : BitVec 32) : Nat :=
  let c0_i32_7 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6 : BitVec 32 := 8#32
  let v24 : BitVec 32 := Scalar.muli v2 c8_i32_6
  let v25 : BitVec 32 := Scalar.addi c0_i32_7 v24
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v26 : BitVec 32 := Scalar.muli v5 c4_i32_8
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v21 : BitVec 1 := Scalar.cmpi .eq v20 v8
  let c3_i32 : BitVec 32 := 3#32
  let v18 : BitVec 1 := Scalar.cmpi .eq v17 v8
  let c2_i32_4 : BitVec 32 := 2#32
  let v15 : BitVec 1 := Scalar.cmpi .eq v14 v8
  let c1_i32_3 : BitVec 32 := 1#32
  let v12 : BitVec 1 := Scalar.cmpi .eq v11 v8
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c1_i32_9 : BitVec 32 := 1#32
  let v28 : BitVec 32 := Scalar.muli v22 c1_i32_9
  let v29 : BitVec 32 := Scalar.addi v27 v28
  v29.toNat

def k0_chk1 (d0 : Dev nD) (v11 : BitVec 32) (v14 : BitVec 32) (v17 : BitVec 32) (v20 : BitVec 32) : Prop :=
  ((k0_dev1 d0 v11 v14 v17 v20) < nD)
theorem k0_dev1_lt : ∀ (d0 : Dev nD) (v11 : BitVec 32) (v14 : BitVec 32) (v17 : BitVec 32) (v20 : BitVec 32) (k0_hw1 : k0_chk1 d0 v11 v14 v17 v20), (k0_dev1 d0 v11 v14 v17 v20) < nD := fun d0 v11 v14 v17 v20 k0_hw1 => k0_hw1

def k0_dev2 (d0 : Dev nD) (v10 : BitVec 32) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v34 : BitVec 32 := Scalar.muli v2 c8_i32_17
  let v35 : BitVec 32 := Scalar.addi c0_i32_18 v34
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v36 : BitVec 32 := Scalar.muli v5 c4_i32_19
  let v37 : BitVec 32 := Scalar.addi v35 v36
  let c1_i32_20 : BitVec 32 := 1#32
  let v38 : BitVec 32 := Scalar.muli v10 c1_i32_20
  let v39 : BitVec 32 := Scalar.addi v37 v38
  v39.toNat

def k0_chk2 (d0 : Dev nD) (v10 : BitVec 32) : Prop :=
  ((k0_dev2 d0 v10) < nD)
theorem k0_dev2_lt : ∀ (d0 : Dev nD) (v10 : BitVec 32) (k0_hw2 : k0_chk2 d0 v10), (k0_dev2 d0 v10) < nD := fun d0 v10 k0_hw2 => k0_hw2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Proof.Route.lean ====
/- Who sends to whom. The table is a permutation of the four positions along the mesh's last axis, so within each row of
   four devices every device sends to one device and is sent to by one device. This module says so for the device numbers
   the kernel computes with 32-bit words. -/
module

public import proofs.«01_k».proof.Proof.Gen.Kernel

@[expose] public section

noncomputable section

namespace Permute

open Cert.Kernel Cert.Kernel.Gen
open Idealize.ShloMosaic Idealize.SL.Sem

/-- A device's position along the last mesh axis. -/
def pos (c : Dev nD) : Fin 4 := ⟨c.val % 4, Nat.mod_lt _ (by omega)⟩

/-- The device at position `j` of the row that `c` is in. -/
def peer (c : Dev nD) (j : Fin 4) : Dev nD :=
  ⟨c.val / 4 * 4 + j.val, by have := c.isLt; have := j.isLt; show _ < 16; have : c.val < 16 := c.isLt; omega⟩

/-- The peer at a position is at that position. -/
theorem pos_peer (c : Dev nD) (j : Fin 4) : pos (peer c j) = j := by
  have := j.isLt
  apply Fin.ext; show (c.val / 4 * 4 + j.val) % 4 = j.val; omega

/-- A device's peer has the peers that the device has. -/
theorem peer_peer (c : Dev nD) (i j : Fin 4) : peer (peer c i) j = peer c j := by
  have := i.isLt
  apply Fin.ext; show (c.val / 4 * 4 + i.val) / 4 * 4 + j.val = c.val / 4 * 4 + j.val; omega

/-- A device is its own peer at its own position. -/
theorem peer_pos (c : Dev nD) : peer c (pos c) = c := by
  apply Fin.ext; show c.val / 4 * 4 + c.val % 4 = c.val; omega

/-- A permutation of the four positions moves the devices of every row alike: the device `c` goes to `peer c (σ (pos c))`. -/
def move (σ : Equiv.Perm (Fin 4)) : Dev nD ≃ Dev nD where
  toFun c := peer c (σ (pos c))
  invFun c := peer c (σ.symm (pos c))
  left_inv c := by dsimp only; rw [pos_peer, Equiv.symm_apply_apply, peer_peer, peer_pos]
  right_inv c := by dsimp only; rw [pos_peer, Equiv.apply_symm_apply, peer_peer, peer_pos]

/-- A position as the 32-bit word that stands for it in the table. -/
abbrev posWord (j : Fin 4) : BitVec 32 := BitVec.ofNat 32 j.val

/-- The number the transfer is addressed to, computed from the word of position `j`, is the peer at `j`. -/
theorem send_number : ∀ (c : Dev nD) (j : Fin 4), k0_dev2 c (posWord j) = (peer c j).val := by decide +kernel

/-- The number the signal is addressed to is the peer at the last place of the table that holds the device's position, and
    the peer at place 0 if no place does. -/
theorem signal_number : ∀ (c : Dev nD) (a b d e : Fin 4), k0_dev1 c (posWord a) (posWord b) (posWord d) (posWord e)
    = (peer c (if e = pos c then 3 else if d = pos c then 2 else if b = pos c then 1 else 0)).val := by decide +kernel

/-- Searching a permutation's four values for `z` finds the place where it takes it. -/
theorem find_place (σ : Equiv.Perm (Fin 4)) (z : Fin 4) :
    (if σ 3 = z then 3 else if σ 2 = z then 2 else if σ 1 = z then 1 else 0 : Fin 4) = σ.symm z := by
  obtain ⟨j, rfl⟩ := σ.surjective z
  rw [Equiv.symm_apply_apply]
  simp only [σ.injective.eq_iff]
  revert j; decide

/-- The word the kernel reads at its own position passes the kernel's check. -/
theorem send_check (c : Dev nD) (j : Fin 4) : k0_chk2 c (posWord j) := by
  show k0_dev2 c (posWord j) < nD
  rw [send_number]; exact (peer c j).isLt

/-- Under a table that is a permutation, the transfer goes to `move σ c`. -/
theorem send_device (σ : Equiv.Perm (Fin 4)) (c : Dev nD) (h : k0_dev2 c (posWord (σ (pos c))) < nD) :
    (⟨k0_dev2 c (posWord (σ (pos c))), h⟩ : Dev nD) = move σ c := Fin.ext (send_number c _)

/-- Under a table that is a permutation, the signal goes to the device that sends to `c`. -/
theorem signal_device (σ : Equiv.Perm (Fin 4)) (c : Dev nD)
    (h : k0_dev1 c (posWord (σ 0)) (posWord (σ 1)) (posWord (σ 2)) (posWord (σ 3)) < nD) :
    (⟨k0_dev1 c (posWord (σ 0)) (posWord (σ 1)) (posWord (σ 2)) (posWord (σ 3)), h⟩ : Dev nD) = (move σ).symm c :=
  Fin.ext ((signal_number c _ _ _ _).trans (by rw [find_place]; rfl))

end Permute

end
-- ==== Proof.Ghost.lean ====
/- The protocol of the permutation kernel: what each device's four semaphores count, what each wait hands over, and what
   every device owes before it starts. Every semaphore is raised by one event and waited for once, so all four follow one
   pattern, and the statements below are made for a semaphore `k` out of four instead of for each by name. -/
module

public import proofs.«01_k».proof.Proof.Route
public import proofs.«01_k».proof.Proof.Gen.Kernel.Skeleton
public import proofs.«01_k».proof.Proof.Gen.Kernel.Launch
public import proofs.«01_k».proof.Proof.Gen.Kernel.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Permute

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

/-- The staging copies' bookkeeping beside the protocol's. -/
abbrev Books : Type := UR sig nD τ × URounds (GSem nD τ sig) Unit

local notation "𝕄" => MT nD τ sig Unit (Elt F) ℕ Books ℕ

abbrev stagingBooks : Emb (UR sig nD τ) (MT nD τ sig Unit (Elt F) ℕ Books ℕ) := embL
abbrev books : Emb (URounds (GSem nD τ sig) Unit) (MT nD τ sig Unit (Elt F) ℕ Books ℕ) := embR

variable (σ : Equiv.Perm (Fin 4)) (m : (ℓ : Loc nD τ sig) → Buf (Elt F) ℓ)

/-- Device `c` holds its buffer `b` whole, with contents `f`. -/
def holds (b : Ref sig .tc) (c : Dev nD) (f : b.ty.Contents (Elt F)) : sProp 𝕄 :=
  ((c : Thread nD τ).loc b) ↦{fullShare} (f : Buf (Elt F) ((c : Thread nD τ).loc b))

omit [FloatOps F] in
instance holds_storable (b : Ref sig .tc) (c : Dev nD) (f : b.ty.Contents (Elt F)) :
    BI.Storable (upEmb : UEmb _ 𝕄) (holds b c f) := by unfold holds; infer_instance

omit [FloatOps F] in
/-- The same through the view of the whole buffer, which is how a transfer names it. -/
theorem holds_view (b : Ref sig .tc) (c : Dev nD) (f : b.ty.Contents (Elt F)) :
    ((Memref.whole b).view.loc (c : Thread nD τ) ↦[(Memref.whole b).view.set]{fullShare} f : sProp 𝕄) = holds b c f := by
  unfold holds; rw [show (Memref.whole b).view.set = Finset.univ from View.set_whole _]

/-- Device `c`'s block of `x`, as it is in memory at the start. -/
abbrev block (c : Dev nD) : (main_arg0 : Ref sig .tc).ty.Contents (Elt F) := m ((c : Thread nD τ).loc main_arg0)

/-! ## The semaphores -/

/-- The barrier semaphore, and the semaphores of the load, of the outgoing and of the incoming transfer. -/
abbrev sems : Fin 4 → SemLoc sig := fun
  | 0 => .reg (SemArray.scalar (sig.barrier 0 rfl) : Sems sig S_).sem
  | 1 => .dma (cc0_scratch2 : DmaSems sig S_).sem
  | 2 => .dma (cc0_scratch3 : DmaSems sig S_).sem
  | 3 => .dma (cc0_scratch4 : DmaSems sig S_).sem

abbrev cell (k : Fin 4) (c : Dev nD) : GSem nD τ sig := ((c : Thread nD τ), sems k)

/-- Which of the four a semaphore is, if it is one. -/
def which (s : SemLoc sig) : Option (Fin 4) := (List.finRange 4).find? fun k => decide (sems k = s)

theorem which_sems (k : Fin 4) : which (sems k) = some k := by revert k; decide
theorem sems_injective : Function.Injective sems := fun a b h => by
  have := congrArg which h; rwa [which_sems, which_sems, Option.some.injEq] at this
theorem cell_eq_iff {k l : Fin 4} {c d : Dev nD} : cell k c = cell l d ↔ k = l ∧ c = d :=
  ⟨fun h => ⟨sems_injective (congrArg Prod.snd h), congrArg (fun g : GSem nD τ sig => g.1.1) h⟩, fun ⟨h, h'⟩ => by rw [h, h']⟩

/-- What one transfer of a block counts on a DMA semaphore. -/
abbrev credit : ℕ := (Memref.whole cc0_scratch0 : Memref sig .tc .vmem S1x256x256 .bf16).view.dmaCredit
theorem credit_pos : 0 < credit := View.dmaCredit_pos _ (by decide)

/-- What the one event of semaphore `k` counts: one signal, or a block. -/
def units (k : Fin 4) : ℕ := if k = 0 then 1 else credit

/-- Whose semaphore `k` the device `c` raises: the barrier of the device that sends to it, its own for its load and for
    its outgoing transfer, and the incoming one of the device it sends to. -/
def raises : Fin 4 → (Dev nD ≃ Dev nD) := fun
  | 0 => (move σ).symm
  | 1 => Equiv.refl _
  | 2 => Equiv.refl _
  | 3 => move σ

/-- What the wait on semaphore `k` of device `c` hands over: the barrier, the result buffer of the device it sends to; the
    load, the block in VMEM and the array it came from; the outgoing transfer, the send buffer; the incoming transfer, the
    result, which holds the block of the device that sent it. -/
def handed : Fin 4 → Dev nD → sProp 𝕄 := fun
  | 0, c => iprop(∃ f, holds main_v1 (move σ c) f)
  | 1, c => iprop(holds cc0_scratch0 c (block m c) ∗ holds main_arg0 c (block m c))
  | 2, c => holds cc0_scratch1 c (block m c)
  | 3, c => holds main_v1 c (block m ((move σ).symm c))

omit [FloatOps F] in
instance handed_storable (k : Fin 4) (c : Dev nD) : BI.Storable (upEmb : UEmb _ 𝕄) (handed σ m k c) := by
  fin_cases k <;> (simp only [handed]; infer_instance)

/-- The schedule of the rounds: each of the four semaphores has one round, with one event in it. -/
def plan : Rounds.Schedule (GSem nD τ sig) Unit 𝕄 where
  duties g r := if r = 0 ∧ g.1.2 = .tc ∧ (which g.2).isSome then {()} else ∅
  amount g _ _ := match which g.2 with | some k => units k | none => 1
  payload g _ _ := match which g.2 with | some k => handed σ m k g.1.1 | none => iprop(emp)
  amount_pos g _ _ _ := by
    cases which g.2 with
    | none => exact Nat.one_pos
    | some k => show 0 < units k; unfold units; split; exacts [Nat.one_pos, credit_pos]

instance plan_storable (g : GSem nD τ sig) (r : ℕ) (d : Unit) : BI.Storable (upEmb : UEmb _ 𝕄) ((plan (F := F) σ m).payload g r d) := by
  show BI.Storable upEmb (match which g.2 with | some k => handed σ m k g.1.1 | none => iprop(emp))
  cases which g.2 <;> infer_instance

section
variable (k : Fin 4) (c : Dev nD)

omit [FloatOps F] in
theorem plan_duties : (plan (F := F) σ m).duties (cell k c) 0 = {()} := by
  dsimp only [plan]; rw [which_sems]; exact if_pos ⟨rfl, rfl, rfl⟩
omit [FloatOps F] in
theorem plan_mem : () ∈ (plan (F := F) σ m).duties (cell k c) 0 := by rw [plan_duties]; exact Finset.mem_singleton_self _
omit [FloatOps F] in
theorem plan_over (g : GSem nD τ sig) : ∀ r, 1 ≤ r → (plan (F := F) σ m).duties g r = ∅ := fun r hr => by
  dsimp only [plan]; rw [if_neg fun h => by omega]
omit [FloatOps F] in
theorem plan_amount : (plan (F := F) σ m).amount (cell k c) 0 () = units k := by dsimp only [plan]; rw [which_sems]
omit [FloatOps F] in
theorem plan_expect : (plan (F := F) σ m).expect (cell k c) 0 = units k := by
  unfold Schedule.expect Schedule.amountOf; rw [plan_duties, Finset.sum_singleton, plan_amount]
omit [FloatOps F] in
theorem plan_payload : (plan (F := F) σ m).payload (cell k c) 0 () = handed σ m k c := by dsimp only [plan]; rw [which_sems]
omit [FloatOps F] in
theorem plan_all : bigSep ((plan (F := F) σ m).duties (cell k c) 0 \ ∅) (fun d => (plan (F := F) σ m).payload (cell k c) 0 d)
    = handed σ m k c := by
  rw [Finset.sdiff_empty, plan_duties, bigSep_singleton, plan_payload]

end

/-! ## What is owed, and the order of the waits -/

/-- Before it starts, a device owes the incoming transfer of the device it sends to, and a signal to the device that sends
    to it. -/
def owed (c : Dev nD) : CellTallies nD τ sig Unit :=
  tallyAt (cell 3 (raises σ 3 c)) () (units 3) + tallyAt (cell 0 (raises σ 0 c)) () (units 0)

/-- Every semaphore of a TensorCore has a level: the barrier below the incoming transfer, all others below both. -/
def levelled (g : GSem nD τ sig) : Finset Unit := if g.1.2 = .tc then {()} else ∅
def height (g : GSem nD τ sig) (_ : Unit) : ℕ := match which g.2 with | some 0 => 1 | some 3 => 2 | _ => 0

/-- The level of semaphore `k`. -/
def heightOf : Fin 4 → ℕ := fun | 0 => 1 | 3 => 2 | _ => 0
theorem height_cell (k : Fin 4) (c : Dev nD) (u : Unit) : height (cell k c) u = heightOf k := by
  show (match which (sems k) with | some 0 => 1 | some 3 => 2 | _ => 0) = heightOf k
  rw [which_sems]; revert k; decide

theorem levelled_tc (c : Dev nD) (s : SemLoc sig) (u : Unit) : u ∈ levelled ((c : Thread nD τ), s) := by
  unfold levelled; rw [if_pos rfl]; exact Finset.mem_singleton_self _

/-- A tally at one cell is positive there only. -/
theorem at_of_pos {g h : GSem nD τ sig} {n : ℕ} {u : Unit} (p : 0 < (tallyAt g () n : CellTallies nD τ sig Unit) h u) : h = g := by
  by_contra hn
  rw [tallyAt_apply, if_neg fun q => hn q.1] at p
  exact Nat.lt_irrefl 0 p

theorem owed_at {c : Dev nD} {g : GSem nD τ sig} {u : Unit} (p : 0 < owed σ c g u) :
    g = cell 3 (raises σ 3 c) ∨ g = cell 0 (raises σ 0 c) := by
  unfold owed at p
  rw [Pi.add_apply, Finsupp.add_apply] at p
  rcases Nat.add_pos_iff_pos_or_pos.mp p with p | p
  exacts [.inl (at_of_pos p), .inr (at_of_pos p)]

omit [FloatOps F] in
/-- A device may wait below everything it owes. -/
theorem may_wait (c : Dev nD) (s : SemLoc sig) (O : CellTallies nD τ sig Unit)
    (h : ∀ (g : GSem nD τ sig) (u : Unit), 0 < O g u → (∃ d : Dev nD, g = ((d : Thread nD τ), g.2)) ∧ height ((c : Thread nD τ), s) () < height g ()) :
    (levAts levelled height : sProp 𝕄) ⊢ MayWait (c : Thread nD τ) s () O :=
  Pipeline.mayWait_of_levAts (levelled_tc c s ()) fun g u p => by
    obtain ⟨⟨d, hd⟩, hl⟩ := h g u p
    exact ⟨by rw [hd]; exact levelled_tc d g.2 u, hl⟩

omit [FloatOps F] in
/-- It may wait for its load and on its barrier while it still owes the transfer. -/
theorem may_wait_sending (k : Fin 4) (hk : k = 0 ∨ k = 1) (c : Dev nD) :
    (levAts levelled height : sProp 𝕄) ⊢ MayWait (c : Thread nD τ) (sems k) () (tallyAt (cell 3 (raises σ 3 c)) () (units 3)) :=
  may_wait c _ _ fun g u p => by
    rw [at_of_pos p]
    refine ⟨⟨_, rfl⟩, ?_⟩
    rw [height_cell, height_cell]
    rcases hk with rfl | rfl <;> decide

omit [FloatOps F] in
/-- It may wait for the table's copy whatever it owes. -/
theorem may_wait_table (c : Dev nD) (q : DmaSem sig) (hq : which (.dma q) = none) (O : CellTallies nD τ sig Unit) (hO : O = owed σ c ∨ O = 0) :
    (levAts levelled height : sProp 𝕄) ⊢ MayWait (c : Thread nD τ) (.dma q) () O := by
  rcases hO with rfl | rfl
  · refine may_wait c _ _ fun g u p => ?_
    have hz : height ((c : Thread nD τ), .dma q) () = 0 := by unfold height; rw [hq]
    rw [hz]
    rcases owed_at σ p with rfl | rfl <;> refine ⟨⟨_, rfl⟩, ?_⟩ <;> (rw [height_cell]; decide)
  · rw [MayWait_zero]; iintro -; iempintro

end Permute

end
-- ==== Proof.Body.lean ====
/- One device's run of the kernel: it reads the table, tells the device that will send to it that its result buffer is free,
   loads its block, waits until the device it sends to is ready, sends, and waits until both transfers it takes part in are
   over. -/
module

public import proofs.«01_k».proof.Proof.Ghost
public import Idealize.ShloMosaic.Lib.Pipeline.Value

@[expose] public section

noncomputable section

namespace Permute

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Books ℕ

variable (σ : Equiv.Perm (Fin 4)) (m : (ℓ : Loc nD τ sig) → Buf (Elt F) ℓ)

/-! ## The table -/

/-- The place `j` of the table. -/
def place (j : Fin 4) : S4.Idx := fun a => ⟨j.val, by fin_cases a; exact j.isLt⟩

/-- Device `c`'s copy of the table. -/
abbrev table (c : Dev nD) : IVec S4 32 := m ((c : Thread nD τ).loc main_arg1)

/-- What is asked of the memory: every device's table lists the values of the permutation `σ`. -/
def Lists : Prop := ∀ (c : Dev nD) (j : Fin 4), table m c (place j) = posWord (σ j)

/-- The table as the body finds it in SMEM. -/
def staged (c : Dev nD) : (cc0_stg0_0 : Ref sig .tc).ty.Contents (Elt F) :=
  (win0_0.blk (0 : Fin 1)).view.read (Elt F) (m ((c : Thread nD τ).loc main_arg1))

omit [FloatOps F] in
variable {σ m} in
/-- A load of one word at offset `j` reads the value of the permutation at `j`. -/
theorem Lists.read (h : Lists σ m) (c : Dev nD) {off : Fin 1 → ℕ} (j : Fin 4) (ho : off = ![j.val])
    (inb : ∀ a, off a + S1.size a ≤ S4.size a) (i : S1.Idx) :
    (((Memref.whole cc0_stg0_0).access (Rect.unit (s := S4) off S1.size inb) : View sig .tc _ _ _).read (Elt F) (staged m c) i : BitVec 32)
      = posWord (σ j) := by
  subst ho
  refine Eq.trans ?_ (h c j)
  show m ((c : Thread nD τ).loc main_arg1) _ = _
  refine congrArg _ (funext fun a => Fin.ext ?_)
  fin_cases a
  have hi : (i 0).val = 0 := Nat.lt_one_iff.mp (i 0).isLt
  show 0 + 1 * (j.val + 1 * (i 0).val) = j.val
  omega

/-! ## What a device starts with, and what it ends with -/

abbrev noVariants : Variants := Variants.none

/-- The invariants of all the semaphores, kept under the names `K`, and that the only round of each is open. Every device
    knows all of them. -/
def records (K : Fin 4 × Dev nD → ℕ) : sProp 𝕄 :=
  iprop((bigSep Finset.univ fun i : Fin 4 × Dev nD => cellInv books (plan σ m) (K i) (cell i.1 i.2))
    ∗ bigSep Finset.univ fun i : Fin 4 × Dev nD => reached books (cell i.1 i.2) 0)

instance records_persistent (K : Fin 4 × Dev nD → ℕ) : BI.Persistent (records (F := F) σ m K) := by unfold records; infer_instance

/-- What is a device's own of the protocol: its place at its four semaphores, and the right to raise four. -/
def own (c : Dev nD) : sProp 𝕄 :=
  iprop((bigSep Finset.univ fun k : Fin 4 => atPos books (cell k c) 0 ∅ 0)
    ∗ bigSep Finset.univ fun k : Fin 4 => dutyTok books (cell k (raises σ k c)) 0 ())

/-- What device `c` has before its launch's buffers: its part of the protocol, the units that it will be given on its
    barrier and its incoming transfer, its block and its result buffer. -/
def begins (c : Dev nD) : sProp 𝕄 :=
  iprop((∃ K, records σ m K ∗ own (F := F) σ c) ∗ (cred (tallyAt (cell 0 c) () (units 0)) ∗ cred (tallyAt (cell 3 c) () (units 3)))
    ∗ levAts levelled height ∗ holds main_arg0 c (block m c) ∗ ∃ f, holds main_v1 c f)

/-- With its two scratch buffers, at the start; -/
def before (c : Dev nD) : sProp 𝕄 :=
  iprop(begins σ m c ∗ (∃ f, holds cc0_scratch0 c f) ∗ ∃ f, holds cc0_scratch1 c f)

/-- and at the end: its block, the result, the scratch buffers, and the four semaphores at zero. -/
def after (c : Dev nD) : sProp 𝕄 :=
  iprop((holds main_arg0 c (block m c) ∗ holds main_v1 c (block m ((move σ).symm c)))
    ∗ ((∃ f, holds cc0_scratch0 c f) ∗ ∃ f, holds cc0_scratch1 c f) ∗ bigSep Finset.univ fun k : Fin 4 => semVal (cell k c) 0)

/-- The launch's account of the one point of its grid: the table is copied in and stays as it is. -/
def account (_ : Fin 1) (c : Dev nD) : Dat τ (Elt F) Unit ℕ Books ℕ cfg0 c where
  A w := m ((cfg0.win w).arr.view.loc (c : Thread nD τ))
  after w _ := match w with
    | ⟨0, _⟩ => staged m c
  Φ t := match t with
    | ⟨0, _⟩ => before σ m c
    | ⟨_ + 1, _⟩ => after σ m c
  q _ := fullShare
  owed t := match t with
    | ⟨0, _⟩ => owed σ c
    | ⟨_ + 1, _⟩ => 0

/-! ## The steps -/

section Steps

variable (K : Fin 4 × Dev nD → ℕ) (c : Dev nD)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem records_inv (k : Fin 4) (d : Dev nD) : records (F := F) σ m K ⊢ cellInv books (plan σ m) (K (k, d)) (cell k d) := by
  unfold records; iintro ⟨H, -⟩
  iapply (show (bigSep Finset.univ fun i : Fin 4 × Dev nD => (cellInv books (plan σ m) (K i) (cell i.1 i.2) : sProp 𝕄)) ⊢ _
    from bigSep_elim (Finset.mem_univ (k, d))); iexact H

omit [FloatOps F] in
theorem records_open (k : Fin 4) (d : Dev nD) : records (F := F) σ m K ⊢ reached books (cell k d) 0 := by
  unfold records; iintro ⟨-, H⟩
  iapply (show (bigSep Finset.univ fun i : Fin 4 × Dev nD => (reached books (cell i.1 i.2) 0 : sProp 𝕄)) ⊢ _
    from bigSep_elim (Finset.mem_univ (k, d))); iexact H

omit [FloatOps F] in
/-- The load leaves the array's contents in the VMEM buffer; -/
theorem copied_in (f : (cc0_scratch0 : Ref sig .tc).ty.Contents (Elt F)) (g : (main_arg0 : Ref sig .tc).ty.Contents (Elt F)) :
    (Memref.whole cc0_scratch0 : Memref sig .tc .vmem S1x256x256 .bf16).view.write (Elt F) f
      ((Memref.whole main_arg0 : Memref sig .tc .hbm S1x256x256 .bf16).view.read (Elt F) g) Finset.univ = g :=
  View.write_whole_univ _ _ _

omit [FloatOps F] in
/-- and the transfer those of the send buffer in the result. -/
theorem copied_out (f : (main_v1 : Ref sig .tc).ty.Contents (Elt F)) (g : (cc0_scratch1 : Ref sig .tc).ty.Contents (Elt F)) :
    (Memref.whole main_v1 : Memref sig .tc .hbm S1x256x256 .bf16).view.write (Elt F) f
      ((Memref.whole cc0_scratch1 : Memref sig .tc .vmem S1x256x256 .bf16).view.read (Elt F) g) Finset.univ = g :=
  View.write_whole_univ _ _ _

omit [FloatOps F] in
/-- What a device's signal hands over is its result buffer; -/
theorem handed_ready : handed σ m 0 (raises σ 0 c) = iprop(∃ f, holds main_v1 c f) := by
  show iprop(∃ f, holds main_v1 (move σ ((move σ).symm c)) f) = _
  rw [Equiv.apply_symm_apply]

omit [FloatOps F] in
/-- and what its transfer hands over is the result buffer of the device it sends to, holding its block. -/
theorem handed_result : handed σ m 3 (raises σ 3 c) = holds main_v1 (raises σ 3 c) (block m c) := by
  show holds main_v1 (move σ c) (block m ((move σ).symm (move σ c))) = holds main_v1 (move σ c) (block m c)
  rw [Equiv.symm_apply_apply]

/-- All transfers count the same, and so do the waits for them. -/
theorem units_credit (k : Fin 4) (hk : k ≠ 0) : units k = credit := if_neg hk
theorem credit_sent : credit = (Memref.whole cc0_scratch1 : Memref sig .tc .vmem S1x256x256 .bf16).view.dmaCredit := rfl
theorem credit_result : credit = (Memref.whole main_v1 : Memref sig .tc .hbm S1x256x256 .bf16).view.dmaCredit := rfl
theorem units_load : (Memref.whole cc0_scratch0 : Memref sig .tc .vmem S1x256x256 .bf16).view.amount (sems 1) = units 1 := rfl
theorem units_sent : (Memref.whole cc0_scratch1 : Memref sig .tc .vmem S1x256x256 .bf16).view.amount (sems 2) = units 2 := rfl
theorem units_result : (Memref.whole main_v1 : Memref sig .tc .hbm S1x256x256 .bf16).view.amount (sems 3) = units 3 := rfl

variable {α : Type} {Q : α → sProp (MT nD τ sig Unit (Elt F) ℕ Books ℕ)}

/-- Device `c` runs the rest `p` of its kernel and then has `Q`. -/
abbrev runs (c : Dev nD) (p : Prog (TpuEff nD τ sig (Elt F) Λ₀ .tc) α) (Q : α → sProp (MT nD τ sig Unit (Elt F) ℕ Books ℕ)) :
    sProp (MT nD τ sig Unit (Elt F) ℕ Books ℕ) :=
  wp frame (wpE (defs₀ (F := F)) noVariants (c : Thread nD τ) none) Set.univ p Q

/-- The wait on a device's own semaphore `k`, for the units of its one event: it hands over what the event hands over, and
    the semaphore is at zero for good. -/
theorem wait_step (k : Fin 4) {w : TpuEff nD τ sig (Elt F) Λ₀ .tc PUnit} {n : ℕ} (hn : units k = n)
    (hw : ∀ G : PUnit → sProp 𝕄, wpE (defs₀ (F := F)) noVariants (c : Thread nD τ) none Set.univ w G = waitSpec (c : Thread nD τ) Set.univ (sems k) n G)
    {next : PUnit → Prog (TpuEff nD τ sig (Elt F) Λ₀ .tc) α} (O : CellTallies nD τ sig Unit) (W : Waits sig Unit) :
    iprop(records σ m K ∗ cred (tallyAt (cell k c) () (units k)) ∗ owes (c : Thread nD τ) O W ∗ MayWait (c : Thread nD τ) (sems k) () O
        ∗ atPos books (cell k c) 0 ∅ 0)
      ⊢ iprop(((owes (c : Thread nD τ) O (insert (sems k, ()) W) ∗ semVal (cell k c) 0 ∗ handed σ m k c) -∗ runs c (next ⟨⟩) Q)
          -∗ runs c (.op w next) Q) := by
  subst hn
  iintro ⟨#HR, Hc, HO, Hm, Hat⟩ Hk
  iapply (Rounds.wp_wait_rest_token noVariants books (plan σ m) (c : Thread nD τ) none (κ := K (k, c)) hw (Set.mem_univ _) ()
    (O := O) (W := W) (R := 0) (m := 0) (T := ∅) (by rw [Nat.zero_add]; exact (plan_expect σ m k c).symm)) $$ [Hc HO Hm Hat]
  · isplitr; · iapply (records_inv σ m K k c); iexact HR
    isplitl [Hc]; · iexact Hc
    isplitl [HO]; · iexact HO
    isplitl [Hm]; · iexact Hm
    iexact Hat
  iintro ⟨HO, Hat, -, Hpay⟩
  imod (Rounds.cell_close books (plan σ m) (Set.mem_univ (K (k, c))) (fun h => h) (R := 0 + 1) (plan_over σ m (cell k c))) $$ [Hat] with Hz
  · isplitr; · iapply (records_inv σ m K k c); iexact HR
    iexact Hat
  iapply Hk
  isplitl [HO]; · iexact HO
  isplitl [Hz]; · iexact Hz
  iapply (Entails.of_eq (plan_all σ m k c)); iexact Hpay

omit [FloatOps F] in
/-- A load of one word of the table, wherever it lies. -/
theorem word_read {off : Fin 1 → ℕ} {inb : ∀ a, off a + S1.size a ≤ S4.size a}
    {hl : (Memref.whole cc0_stg0_0 : Memref sig .tc .smem S4 .i32).view.LoadsAt (Rect.unit (s := S4) off S1.size inb).toLoadRect}
    {next : (S1.Idx → Elt F .i32) → Prog (TpuEff nD τ sig (Elt F) Λ₀ .tc) α} :
    holds cc0_stg0_0 c (staged m c)
      ⊢ iprop((holds cc0_stg0_0 c (staged m c)
            -∗ runs c (next (((Memref.whole cc0_stg0_0).access (Rect.unit (s := S4) off S1.size inb) : View sig .tc _ _ _).read (Elt F) (staged m c))) Q)
          -∗ runs c (.op (.load (Memref.whole cc0_stg0_0) (Rect.unit (s := S4) off S1.size inb).toLoadRect hl) next) Q) :=
  wp_load_rect noVariants (c : Thread nD τ) none Set.univ (m := Memref.whole cc0_stg0_0) (r := Rect.unit (s := S4) off S1.size inb)
    (Finset.subset_univ _)

/-- A load of one word of the table, at the place of position `j`: it reads the word the table has for `j`. -/
theorem word_step (h : Lists σ m) (j : Fin 4) {off : Fin 1 → ℕ} (ho : off = ![j.val]) {inb : ∀ a, off a + S1.size a ≤ S4.size a}
    {hl : (Memref.whole cc0_stg0_0 : Memref sig .tc .smem S4 .i32).view.LoadsAt (Rect.unit (s := S4) off S1.size inb).toLoadRect}
    {next : (S1.Idx → Elt F .i32) → Prog (TpuEff nD τ sig (Elt F) Λ₀ .tc) α} :
    holds cc0_stg0_0 c (staged m c)
      ⊢ iprop((holds cc0_stg0_0 c (staged m c) -∗ runs c (next fun _ => posWord (σ j)) Q)
          -∗ runs c (.op (.load (Memref.whole cc0_stg0_0) (Rect.unit (s := S4) off S1.size inb).toLoadRect hl) next) Q) := by
  have w := word_read (Q := Q) m c (inb := inb) (hl := hl) (next := next)
  rw [show ((Memref.whole cc0_stg0_0).access (Rect.unit (s := S4) off S1.size inb) : View sig .tc _ _ _).read (Elt F) (staged m c)
    = fun _ => posWord (σ j) from funext fun i => h.read c j ho inb i] at w
  exact w

/-- The signal: the device gives its result buffer to the device that sends to it. -/
theorem signal_step {n : Dev nD} (hn : n = raises σ 0 c) {u : ℕ} (hu : units 0 = u)
    {next : PUnit → Prog (TpuEff nD τ sig (Elt F) Λ₀ .tc) α} (W : Waits sig Unit) :
    iprop(records σ m K ∗ owes (c : Thread nD τ) (owed σ c) W ∗ dutyTok books (cell 0 (raises σ 0 c)) 0 () ∗ ∃ f, holds main_v1 c f)
      ⊢ iprop((owes (c : Thread nD τ) (tallyAt (cell 3 (raises σ 3 c)) () (units 3)) W -∗ runs c (next ⟨⟩) Q)
          -∗ runs c (.op (.semSignal (n : Thread nD τ) (SemArray.scalar (sig.barrier 0 rfl) : Sems sig S_).sem u) next) Q) := by
  subst hn hu
  iintro ⟨#HR, HO, Ht, Hv⟩ Hk
  iapply (Rounds.wp_signal noVariants books (plan σ m) (c : Thread nD τ) none (dst := (raises σ 0 c : Thread nD τ))
    (κ := K (0, raises σ 0 c)) (d := ()) (plan_mem σ m 0 (raises σ 0 c)) (plan_amount σ m 0 (raises σ 0 c)) ()
    (tallyAt (cell 3 (raises σ 3 c)) () (units 3)) rfl) $$ [HO Ht Hv]
  · isplitr; · iapply (records_inv σ m K 0 (raises σ 0 c)); iexact HR
    isplitl [HO]; · iexact HO
    isplitl [Ht]; · iexact Ht
    isplitl [Hv]
    · iapply (Entails.of_eq ((plan_payload σ m 0 (raises σ 0 c)).trans (handed_ready σ m c)).symm); iexact Hv
    · iapply (records_open σ m K 0 (raises σ 0 c)); iexact HR
  iexact Hk

/-- The load: the device's block copied into its VMEM buffer, on its own semaphore. -/
theorem load_step {hs : (Memref.whole main_arg0 : Memref sig .tc .hbm S1x256x256 .bf16).view.WordExact}
    {hd : (Memref.whole cc0_scratch0 : Memref sig .tc .vmem S1x256x256 .bf16).view.WordExact}
    {ht : DmaTarget.Typed (nD := nD) .hbm (sems 1) (.here (Memref.whole cc0_scratch0 : Memref sig .tc .vmem S1x256x256 .bf16) : DmaTarget nD τ sig .tc .vmem S1x256x256 .bf16)}
    {next : PUnit → Prog (TpuEff nD τ sig (Elt F) Λ₀ .tc) α} :
    iprop(records σ m K ∗ holds main_arg0 c (block m c) ∗ (∃ f, holds cc0_scratch0 c f) ∗ dutyTok books (cell 1 (raises σ 1 c)) 0 ())
      ⊢ iprop((cred (tallyAt (cell 1 c) () (units 1)) -∗ runs c (next ⟨⟩) Q)
          -∗ runs c (.op (.enqueueDma (Memref.whole main_arg0 : Memref sig .tc .hbm S1x256x256 .bf16)
            (.here (Memref.whole cc0_scratch0 : Memref sig .tc .vmem S1x256x256 .bf16)) (sems 1) hs hd ht) next) Q) := by
  iintro ⟨#HR, Hx, ⟨%f, Hs⟩, Ht⟩ Hk
  ihave Hx := (Entails.of_eq (holds_view main_arg0 c (block m c)).symm) $$ Hx
  ihave Hs := (Entails.of_eq (holds_view cc0_scratch0 c f).symm) $$ Hs
  iapply (Rounds.wp_copy_pointsTo noVariants books (plan σ m) (c : Thread nD τ) none (κ := K (1, c)) (d := ()) (r := 0) (fs := block m c) (fd := f)
    (plan_mem σ m 1 c) () (units 1) units_load (plan_amount σ m 1 c)
    (by
      rw [plan_payload, copied_in]
      exact Entails.of_eq (congrArg₂ (fun a b => iprop(a ∗ b)) (holds_view cc0_scratch0 c (block m c)) (holds_view main_arg0 c (block m c)))))
    $$ [Hx Hs Ht]
  · isplitr; · iapply (records_inv σ m K 1 c); iexact HR
    isplitl [Hx]; · iexact Hx
    isplitl [Hs]; · iexact Hs
    isplitl [Ht]; · iexact Ht
    iapply (records_open σ m K 1 c); iexact HR
  iexact Hk

/-- The transfer: the send buffer, which holds the device's block, copied onto the result buffer of the device it sends to. -/
theorem send_step {n : Dev nD} (hn : n = raises σ 3 c) {hc : (Memref.whole main_v1 : Memref sig (Dev.tc n : Thread nD τ).2.kind .hbm S1x256x256 .bf16).view.ref.isScScratch = false}
    {hs : (Memref.whole cc0_scratch1 : Memref sig .tc .vmem S1x256x256 .bf16).view.WordExact}
    {hd : (Memref.whole main_v1 : Memref sig .tc .hbm S1x256x256 .bf16).view.WordExact}
    {ht : DmaTarget.Typed .vmem (sems 3) (.remote (Dev.tc n : Thread nD τ) (Memref.whole main_v1 : Memref sig .tc .hbm S1x256x256 .bf16) (sems 2) hc)}
    {next : PUnit → Prog (TpuEff nD τ sig (Elt F) Λ₀ .tc) α} (W : Waits sig Unit) :
    iprop(records σ m K ∗ holds cc0_scratch1 c (block m c) ∗ handed σ m 0 c
        ∗ owes (c : Thread nD τ) (tallyAt (cell 3 (raises σ 3 c)) () (units 3)) W
        ∗ dutyTok books (cell 2 (raises σ 2 c)) 0 () ∗ dutyTok books (cell 3 (raises σ 3 c)) 0 ())
      ⊢ iprop(((cred (tallyAt (cell 2 c) () (units 2)) ∗ owes (c : Thread nD τ) 0 W) -∗ runs c (next ⟨⟩) Q)
          -∗ runs c (.op (.enqueueDma (Memref.whole cc0_scratch1 : Memref sig .tc .vmem S1x256x256 .bf16)
            (.remote (Dev.tc n : Thread nD τ) (Memref.whole main_v1 : Memref sig .tc .hbm S1x256x256 .bf16) (sems 2) hc) (sems 3) hs hd ht) next) Q) := by
  subst hn
  iintro ⟨#HR, Hs, Hv, HO, Ht2, Ht3⟩ Hk
  ihave Hv := (show handed σ m 0 c ⊢ iprop(∃ f, holds main_v1 (raises σ 3 c) f) from BI.Entails.refl _) $$ Hv
  icases Hv with ⟨%f, Hv⟩
  ihave Hs := (Entails.of_eq (holds_view cc0_scratch1 c (block m c)).symm) $$ Hs
  ihave Hv := (Entails.of_eq (holds_view main_v1 (raises σ 3 c) f).symm) $$ Hv
  iapply (Rounds.wp_send_pointsTo noVariants books (plan σ m) (c : Thread nD τ) none (κ₁ := K (2, c)) (κ₂ := K (3, raises σ 3 c))
    (r₁ := 0) (r₂ := 0) (d₁ := ()) (d₂ := ()) (fd := f) (plan_mem σ m 2 c) (plan_mem σ m 3 (raises σ 3 c))
    () () (units 3) units_result (plan_amount σ m 2 c) (plan_amount σ m 3 (raises σ 3 c)) 0 (by rw [zero_add]) (W := W)
    (by rw [plan_payload]; exact Entails.of_eq (holds_view cc0_scratch1 c (block m c)))
    (by
      rw [plan_payload, copied_out, handed_result]
      exact Entails.of_eq (holds_view main_v1 (raises σ 3 c) (block m c))))
    $$ [Hs Hv HO Ht2 Ht3]
  · isplitr; · iapply (records_inv σ m K 2 c); iexact HR
    isplitr; · iapply (records_inv σ m K 3 (raises σ 3 c)); iexact HR
    isplitl [Hs]; · iexact Hs
    isplitl [Hv]; · iexact Hv
    isplitl [HO]; · iexact HO
    isplitl [Ht2]; · iexact Ht2
    isplitr; · iapply (records_open σ m K 2 c); iexact HR
    isplitl [Ht3]; · iexact Ht3
    iapply (records_open σ m K 3 (raises σ 3 c)); iexact HR
  iexact Hk

theorem no_offset : (![0, 0, 0] : Fin 3 → ℕ) = fun _ => 0 := funext fun a => by fin_cases a <;> rfl

/-- The store writes what was loaded: the cast between is to the shape the value has. -/
theorem cast_same (v : Vec F S1x256x256 .bf16) : k0_pay1 v = v := by unfold k0_pay1; exact shapeCast_self _ _

/-- A load of a whole block's worth from the first VMEM buffer: it reads the buffer's contents. -/
theorem block_read {inb : ∀ a, (![0, 0, 0] : Fin 3 → ℕ) a + S1x256x256.size a ≤ S1x256x256.size a}
    {hl : (Memref.whole cc0_scratch0 : Memref sig .tc .vmem S1x256x256 .bf16).view.LoadsAt (Rect.unit (s := S1x256x256) ![0, 0, 0] S1x256x256.size inb).toLoadRect}
    {next : (S1x256x256.Idx → Elt F .bf16) → Prog (TpuEff nD τ sig (Elt F) Λ₀ .tc) α} (f : (cc0_scratch0 : Ref sig .tc).ty.Contents (Elt F)) :
    holds cc0_scratch0 c f
      ⊢ iprop((holds cc0_scratch0 c f -∗ runs c (next f) Q)
          -∗ runs c (.op (.load (Memref.whole cc0_scratch0) (Rect.unit (s := S1x256x256) ![0, 0, 0] S1x256x256.size inb).toLoadRect hl) next) Q) := by
  have w := wp_load (defs := defs₀ (F := F)) (Q := Q) (k := next) noVariants (c : Thread nD τ) none Set.univ (m := Memref.whole cc0_scratch0)
    (r := (Rect.unit (s := S1x256x256) ![0, 0, 0] S1x256x256.size inb).toLoadRect) (q := fullShare) (f := f) (hl := hl) (Γ := []) (Finset.subset_univ _)
  rw [show (Memref.whole cc0_scratch0 : Memref sig .tc .vmem S1x256x256 .bf16).view.readAt (Elt F)
    (Rect.unit (s := S1x256x256) ![0, 0, 0] S1x256x256.size inb).toLoadRect f = f from Memref.readAt_unit_zero (Elt F) cc0_scratch0 no_offset inb f] at w
  exact w

/-- The store of a block `v` over the second: a load there, whose result is not used, and then the store. -/
theorem block_write {inb inb' : ∀ a, (![0, 0, 0] : Fin 3 → ℕ) a + S1x256x256.size a ≤ S1x256x256.size a}
    {hl : (Memref.whole cc0_scratch1 : Memref sig .tc .vmem S1x256x256 .bf16).view.LoadsAt (Rect.unit (s := S1x256x256) ![0, 0, 0] S1x256x256.size inb).toLoadRect}
    {hx : ((Memref.whole cc0_scratch1 : Memref sig .tc .vmem S1x256x256 .bf16).access (Rect.unit (s := S1x256x256) ![0, 0, 0] S1x256x256.size inb')).Stores Finset.univ}
    {hm : (Finset.univ : Finset (Rect.unit (s := S1x256x256) ![0, 0, 0] S1x256x256.size inb').shape.Idx) = Finset.univ ∨ ∀ a, (Rect.unit (s := S1x256x256) ![0, 0, 0] S1x256x256.size inb').stride a = 1}
    {next : PUnit → Prog (TpuEff nD τ sig (Elt F) Λ₀ .tc) α} (f v : (cc0_scratch1 : Ref sig .tc).ty.Contents (Elt F)) :
    holds cc0_scratch1 c f
      ⊢ iprop((holds cc0_scratch1 c v -∗ runs c (next ⟨⟩) Q)
          -∗ runs c (.op (.load (Memref.whole cc0_scratch1) (Rect.unit (s := S1x256x256) ![0, 0, 0] S1x256x256.size inb).toLoadRect hl) fun _ =>
            .op (.store (Memref.whole cc0_scratch1) (Rect.unit (s := S1x256x256) ![0, 0, 0] S1x256x256.size inb') (k0_pay1 v) Finset.univ hx hm) next) Q) := by
  have w := wp_store (defs := defs₀ (F := F)) (Q := Q) (k := next) noVariants (c : Thread nD τ) none Set.univ (m := Memref.whole cc0_scratch1)
    (r := Rect.unit (s := S1x256x256) ![0, 0, 0] S1x256x256.size inb') (w := k0_pay1 v) (f := f) (hx := hx) (hm := hm) (Γ := []) (Finset.subset_univ _)
  rw [cast_same, show ((Memref.whole cc0_scratch1 : Memref sig .tc .vmem S1x256x256 .bf16).access
    (Rect.unit (s := S1x256x256) ![0, 0, 0] S1x256x256.size inb') : View sig .tc _ _ _).write (Elt F) f v Finset.univ = v
    from Memref.write_access_unit_zero_univ (Elt F) cc0_scratch1 no_offset inb' f v] at w
  unfold holds
  iintro H Hk
  iapply (wp_load (defs := defs₀ (F := F)) noVariants (c : Thread nD τ) none Set.univ (m := Memref.whole cc0_scratch1)
    (r := (Rect.unit (s := S1x256x256) ![0, 0, 0] S1x256x256.size inb).toLoadRect) (hl := hl) (Finset.subset_univ _)) $$ H
  iintro H
  rw [cast_same]
  iapply w $$ H
  iexact Hk

end Steps

/-! ## The body -/

theorem one_point (t : Fin cfg0.N) : t = t0_0 := fin_N0 t

/-- The kernel on device `c`, on the buffers its launch gives it. -/
abbrev body : Prog (TpuEff nD τ sig (Elt F) Λ₀ .tc) PUnit :=
  cc0_body (Memref.whole cc0_stg0_0) (Memref.isWhole_whole _) (Memref.whole main_arg0) (Memref.isWhole_whole _)
    (Memref.whole main_v1) (Memref.isWhole_whole _) (Memref.whole cc0_scratch0) (Memref.isWhole_whole _)
    (Memref.whole cc0_scratch1) (Memref.isWhole_whole _) cc0_scratch2 cc0_scratch3 cc0_scratch4

/-- From what it has at the start, owing what it owes, device `c`'s run of the kernel comes to what it has at the end, owing
    nothing, with the table as it was. -/
theorem body_runs (h : Lists σ m) (c : Dev nD) (W : Waits sig Unit) (Q : PUnit → sProp 𝕄) :
    iprop(before σ m c ∗ owes (c : Thread nD τ) (owed σ c) W ∗ holds cc0_stg0_0 c (staged m c)
        ∗ (∀ W', (after σ m c ∗ owes (c : Thread nD τ) 0 W' ∗ holds cc0_stg0_0 c (staged m c)) -∗ Q ⟨⟩))
      ⊢ runs c (body (F := F)) Q := by
  unfold body runs
  rw [cc0_body_eq_skeleton]; unfold cc0_body_skel
  rw [k0_part1_eq_skeleton]; unfold k0_part1_skel
  simp only [semSignalWord, semWaitWord, smemLoad, smemLoadElt, Prog.lift, Prog.bind_op, Prog.bind_ret, Prog.pure_eq_ret, Prog.bind_assoc, wp_deviceId]
  unfold before begins own
  simp only [bigSep_four]
  iintro ⟨⟨⟨⟨%K, #HR, ⟨Ha0, Ha1, Ha2, Ha3⟩, Ht0, Ht1, Ht2, Ht3⟩, ⟨Hc0, Hc3⟩, #Hlev, Hx, Hv⟩, Hs0, ⟨%f1, Hs1⟩⟩, HO, Htab, Hk⟩
  -- the word at the device's own position, and that the kernel's check of it holds
  iapply (word_step σ m c h (pos c) (k0_off1_eq c)) $$ Htab; iintro Htab
  simp only [wp_assume_of _ _ _ _ (d := k0_chk2.dec _ _) (send_check c (σ (pos c)))]
  -- the four words, and the check of them
  iapply (word_step σ m c h 0 rfl) $$ Htab; iintro Htab
  iapply (word_step σ m c h 1 rfl) $$ Htab; iintro Htab
  iapply (word_step σ m c h 2 rfl) $$ Htab; iintro Htab
  iapply (word_step σ m c h 3 rfl) $$ Htab; iintro Htab
  simp only [wp_assume_of _ _ _ _ (d := k0_chk1.dec _ _ _ _ _) (k0_chk1_all c (posWord (σ 0)) (posWord (σ 1)) (posWord (σ 2)) (posWord (σ 3)))]
  -- the signal
  iapply (signal_step σ m K c (signal_device σ c _) (by decide) W) $$ [HO Ht0 Hv]
  · isplitr; · iexact HR
    isplitl [HO]; · iexact HO
    isplitl [Ht0]; · iexact Ht0
    iexact Hv
  iintro HO
  -- the load, and the wait for it
  iapply (load_step σ m K c) $$ [Hx Hs0 Ht1]
  · isplitr; · iexact HR
    isplitl [Hx]; · iexact Hx
    isplitl [Hs0]; · iexact Hs0
    iexact Ht1
  iintro Hc1
  iapply (wait_step σ m K c 1 rfl (wpE_waitDma2_eq noVariants (c : Thread nD τ) none Set.univ) _ W) $$ [Hc1 HO Ha1]
  · isplitr; · iexact HR
    isplitl [Hc1]; · iexact Hc1
    isplitl [HO]; · iexact HO
    isplitr; · iapply (may_wait_sending σ 1 (.inr rfl) c); iexact Hlev
    iexact Ha1
  iintro ⟨HO, Hz1, Hp⟩
  ihave Hp := (show handed σ m 1 c ⊢ iprop(holds cc0_scratch0 c (block m c) ∗ holds main_arg0 c (block m c)) from BI.Entails.refl _) $$ Hp
  icases Hp with ⟨Hs0, Hx⟩
  -- through the two VMEM buffers
  iapply (block_read c (block m c)) $$ Hs0; iintro Hs0
  iapply (block_write c f1 (block m c)) $$ Hs1; iintro Hs1
  -- the barrier
  iapply (wait_step σ m K c 0 rfl (wpE_semWait_eq noVariants (c : Thread nD τ) none Set.univ) _ _) $$ [Hc0 HO Ha0]
  · isplitr; · iexact HR
    isplitl [Hc0]; · iexact Hc0
    isplitl [HO]; · iexact HO
    isplitr; · iapply (may_wait_sending σ 0 (.inl rfl) c); iexact Hlev
    iexact Ha0
  iintro ⟨HO, Hz0, Hp⟩
  -- the transfer, and the waits for the two ends of it
  iapply (send_step σ m K c (send_device σ c _) _) $$ [Hs1 Hp HO Ht2 Ht3]
  · isplitr; · iexact HR
    isplitl [Hs1]; · iexact Hs1
    isplitl [Hp]; · iexact Hp
    isplitl [HO]; · iexact HO
    isplitl [Ht2]; · iexact Ht2
    iexact Ht3
  iintro ⟨Hc2, HO⟩
  iapply (wait_step σ m K c 2 ((units_credit 2 (by decide)).trans credit_sent) (wpE_waitDma2_eq noVariants (c : Thread nD τ) none Set.univ) _ _) $$ [Hc2 HO Ha2]
  · isplitr; · iexact HR
    isplitl [Hc2]; · iexact Hc2
    isplitl [HO]; · iexact HO
    isplitr; · rw [MayWait_zero]; iempintro
    iexact Ha2
  iintro ⟨HO, Hz2, Hs1⟩
  iapply (wait_step σ m K c 3 ((units_credit 3 (by decide)).trans credit_result) (wpE_waitDma2_eq noVariants (c : Thread nD τ) none Set.univ) _ _) $$ [Hc3 HO Ha3]
  · isplitr; · iexact HR
    isplitl [Hc3]; · iexact Hc3
    isplitl [HO]; · iexact HO
    isplitr; · rw [MayWait_zero]; iempintro
    iexact Ha3
  iintro ⟨HO, Hz3, Hv⟩
  ihave Hs1 := (show handed σ m 2 c ⊢ holds cc0_scratch1 c (block m c) from BI.Entails.refl _) $$ Hs1
  ihave Hv := (show handed σ m 3 c ⊢ holds main_v1 c (block m ((move σ).symm c)) from BI.Entails.refl _) $$ Hv
  -- what it has at the end
  unfold runs; rw [wp_ret]; imodintro
  iapply Hk
  unfold after
  rw [bigSep_four]
  isplitr [HO Htab]
  · isplitl [Hx Hv]
    · isplitl [Hx]; · iexact Hx
      iexact Hv
    isplitl [Hs0 Hs1]
    · isplitl [Hs0]; · iexists _; iexact Hs0
      iexists _; iexact Hs1
    isplitl [Hz0]; · iexact Hz0
    isplitl [Hz1]; · iexact Hz1
    isplitl [Hz2]; · iexact Hz2
    iexact Hz3
  · isplitl [HO]; · iexact HO
    iexact Htab

end Permute

end
-- ==== Proof.Run.lean ====
/- The whole run of the permutation kernel's program: the launch deals the protocol's resources to the devices, each device
   runs its body, and at the end every device's result is the block that its table says, its arguments are as they were and
   all its semaphores are at zero. -/
module

public import proofs.«01_k».proof.Proof.Body

@[expose] public section

noncomputable section

namespace Permute

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Books ℕ

variable (σ : Equiv.Perm (Fin 4)) (m : (ℓ : Loc nD τ sig) → Buf (Elt F) ℓ)

/-! ## The body, as the launch asks for it -/

omit [FloatOps F] in
/-- To own the whole of a buffer with contents `X` is to hold it with them. -/
theorem owns_holds (c : Dev nD) (b : Ref sig .tc) (X : b.ty.Contents (Elt F)) :
    (owns (Ix := Unit) (Name := ℕ) (U := Books) (Lvl := ℕ) (c : Thread nD τ) (Memref.whole b) fullShare X : sProp 𝕄)
      = iprop(∃ f : b.ty.Contents (Elt F), ⌜f = X⌝ ∗ holds b c f) := by
  unfold owns holds; simp only [Memref.view_whole, View.read_whole, View.set_whole]

omit [FloatOps F] in
theorem holds_of_owns (c : Dev nD) (b : Ref sig .tc) (X : b.ty.Contents (Elt F)) :
    (owns (Ix := Unit) (Name := ℕ) (U := Books) (Lvl := ℕ) (c : Thread nD τ) (Memref.whole b) fullShare X : sProp 𝕄) ⊢ holds b c X := by
  rw [owns_holds]; iintro ⟨%f, %h, H⟩; subst h; iexact H

omit [FloatOps F] in
theorem owns_of_holds (c : Dev nD) (b : Ref sig .tc) (X : b.ty.Contents (Elt F)) :
    holds b c X ⊢ (owns (Ix := Unit) (Name := ℕ) (U := Books) (Lvl := ℕ) (c : Thread nD τ) (Memref.whole b) fullShare X : sProp 𝕄) := by
  rw [owns_holds]; iintro H; iexists X; isplitr; · (ipureintro; rfl)
  iexact H

omit [FloatOps F] in
/-- The table's copy brings in the table. -/
theorem before_staged (c : Dev nD) (d : (cc0_stg0_0 : Ref sig .tc).ty.Contents (Elt F)) :
    (account σ m 0 c).before (0 : Fin 1) t0_0 d = staged m c := by
  unfold Dat.before; rw [if_pos (fetch0_0 t0_0)]; rfl

theorem body_meets (h : Lists σ m) (c : Dev nD) : BodyObligation (account (F := F) σ m 0 c) (defs₀ (F := F)) noVariants () Set.univ := fun t => by
  rw [one_point t, bigSep_W0, bigSep_W0]
  show iprop(before σ m c ∗ (∃ W, ⌜↑W ⊆ (account σ m 0 c).bound () t0_0.castSucc⌝ ∗ owes (c : Thread nD τ) (owed σ c) W)
      ∗ ∃ d, owns (c : Thread nD τ) (Memref.whole cc0_stg0_0) fullShare ((account σ m 0 c).before (0 : Fin 1) t0_0 d))
    ⊢ runs c (body (F := F)) fun _ => iprop(after σ m c ∗ (∃ W, ⌜↑W ⊆ (account σ m 0 c).bound () t0_0.succ⌝ ∗ owes (c : Thread nD τ) 0 W)
      ∗ owns (c : Thread nD τ) (Memref.whole cc0_stg0_0) fullShare (staged m c))
  iintro ⟨Hb, ⟨%W, %hW, HO⟩, ⟨%d, Ht⟩⟩
  rw [before_staged]
  iapply (body_runs σ m h c W _)
  isplitl [Hb]; · iexact Hb
  isplitl [HO]; · iexact HO
  isplitl [Ht]; · iapply (holds_of_owns c cc0_stg0_0 (staged m c)); iexact Ht
  iintro %W' ⟨Ha, HO, Ht⟩
  isplitl [Ha]; · iexact Ha
  isplitl [HO]
  · iexists W'; isplitr; · (ipureintro; exact fun _ _ => Or.inl trivial)
    iexact HO
  · iapply (owns_of_holds c cc0_stg0_0 (staged m c)); iexact Ht

/-! ## The launch's resources -/

/-- The three semaphores that are the kernel's own; the fourth, the barrier, is the runtime's. -/
abbrev ownSems : Fin 3 → SemLoc sig := fun j => sems j.succ

theorem own_facts : Pipeline.OwnSemFacts cfg0.spec ownSems := by decide

theorem all_share (c : Dev nD) (w : Fin cfg0.W) : (account (F := F) σ m 0 c).share w = fullShare := by unfold Dat.share; split <;> rfl

theorem cell_injective : Function.Injective fun i : Fin 4 × Dev nD => cell i.1 i.2 := fun _ _ h => by
  obtain ⟨h₁, h₂⟩ := cell_eq_iff.mp h; exact Prod.ext h₁ h₂

/-- All the semaphores of the protocol, and for each the one right to raise it. -/
def allCells : Finset (GSem nD τ sig) := Finset.univ.map ⟨fun i : Fin 4 × Dev nD => cell i.1 i.2, cell_injective⟩
def allRights : Finset (GSem nD τ sig × ℕ × Unit) :=
  Finset.univ.map ⟨fun i : Fin 4 × Dev nD => (cell i.1 i.2, 0, ()), fun _ _ h => cell_injective (congrArg Prod.fst h)⟩

/-- The launch's element: the bookkeeping of the table's copy, and that of the protocol. -/
def initial : Books := (initOf (Pipeline.cells cfgs cellOf_inj) (Pipeline.launchToks cfgs cellOf_inj), initOf allCells allRights)

omit [FloatOps F] in
/-- What is stated of every semaphore and device can be read semaphore by semaphore or device by device. -/
theorem swap_order (Φ : Fin 4 → Dev nD → sProp 𝕄) :
    (bigSep Finset.univ fun c : Dev nD => bigSep Finset.univ fun k : Fin 4 => Φ k c) = bigSep Finset.univ fun k : Fin 4 => bigSep Finset.univ fun c : Dev nD => Φ k c := by
  rw [← bigSep_univ_prod fun i : Dev nD × Fin 4 => Φ i.2 i.1, ← bigSep_univ_prod fun i : Fin 4 × Dev nD => Φ i.1 i.2]
  exact bigSep_univ_equiv (Equiv.prodComm (Fin 4) (Dev nD)) fun i : Dev nD × Fin 4 => Φ i.2 i.1

omit [FloatOps F] in
/-- What is stated for every semaphore of every device, device by device. -/
theorem by_device (Φ : Fin 4 → Dev nD → sProp 𝕄) :
    (bigSep Finset.univ fun i : Fin 4 × Dev nD => Φ i.1 i.2) = bigSep Finset.univ fun c : Dev nD => bigSep Finset.univ fun k : Fin 4 => Φ k c := by
  rw [swap_order]; exact bigSep_univ_prod fun i : Fin 4 × Dev nD => Φ i.1 i.2

/-- What the element gives device `c` for its four semaphores: their states, its place at each, and the rights to raise them. -/
def dealt (c : Dev nD) : sProp 𝕄 :=
  iprop((bigSep Finset.univ fun k : Fin 4 => roundState books (plan σ m) (cell k c) 0)
    ∗ (bigSep Finset.univ fun k : Fin 4 => atPos books (cell k c) 0 ∅ 0) ∗ (bigSep Finset.univ fun k : Fin 4 => reached books (cell k c) 0)
    ∗ bigSep Finset.univ fun k : Fin 4 => dutyTok books (cell k c) 0 ())

omit [FloatOps F] in
theorem swap_sides (A B : sProp 𝕄) : iprop(A ∗ B) = iprop(B ∗ A) :=
  BI.Entails.antisymm (show iprop(A ∗ B) ⊢ iprop(B ∗ A) from Laws.sep_symm) (show iprop(B ∗ A) ⊢ iprop(A ∗ B) from Laws.sep_symm)

omit [FloatOps F] in
theorem reorder (A B C D : sProp 𝕄) : iprop(A ∗ B ∗ C ∗ D) ⊢ iprop(A ∗ C ∗ B ∗ D) := by
  iintro ⟨HA, HB, HC, HD⟩
  isplitl [HA]; · iexact HA
  isplitl [HC]; · iexact HC
  isplitl [HB]; · iexact HB
  iexact HD

omit [FloatOps F] in
theorem deal : BI.own (books (initOf allCells allRights)) ⊢ (|==> bigSep Finset.univ (dealt (F := F) σ m) : sProp 𝕄) := by
  have hX (Φ : GSem nD τ sig → sProp 𝕄) : bigSep allCells Φ = bigSep Finset.univ fun c : Dev nD => bigSep Finset.univ fun k : Fin 4 => Φ (cell k c) := by
    unfold allCells; rw [bigSep_map]; exact by_device fun k c => Φ (cell k c)
  have hT : bigSep allRights (fun x => (dutyTok books x.1 x.2.1 x.2.2 : sProp 𝕄))
      = bigSep Finset.univ fun c : Dev nD => bigSep Finset.univ fun k : Fin 4 => dutyTok books (cell k c) 0 () := by
    unfold allRights; rw [bigSep_map]; exact by_device fun k c => dutyTok books (cell k c) 0 ()
  refine (Rounds.fund books (plan σ m) allCells allRights).trans (BI.bupd_mono ?_)
  rw [hX, hX, hX, hT, show dealt (F := F) σ m = fun c => iprop((bigSep Finset.univ fun k : Fin 4 => roundState books (plan σ m) (cell k c) 0)
      ∗ (bigSep Finset.univ fun k : Fin 4 => atPos books (cell k c) 0 ∅ 0) ∗ (bigSep Finset.univ fun k : Fin 4 => reached books (cell k c) 0)
      ∗ bigSep Finset.univ fun k : Fin 4 => dutyTok books (cell k c) 0 ()) from rfl, bigSep_sep', bigSep_sep', bigSep_sep']
  exact reorder _ _ _ _

omit [FloatOps F] in
/-- A device's four semaphores, as the launch hands them over: three of its own and the runtime's. -/
theorem four_zero (c : Dev nD) :
    iprop(Pipeline.ownSems0 (Ix := Unit) (Name := ℕ) (U := Books) (Lvl := ℕ) (Val := Elt F) (τ := τ) ownSems c ∗ unscopedSems0 c)
      = (bigSep Finset.univ fun k : Fin 4 => semVal (cell k c) 0 : sProp 𝕄) := by
  rw [Pipeline.ownSems0_eq_of_list c ownSems [0, 1, 2] (by decide) (by decide), bigSep_four,
    show (unscopedSems0 c : sProp 𝕄) = semVal (cell 0 c) 0 from by
      unfold unscopedSems0; rw [bigSep_eq_bigSepL_of_eq [sems 0] (by decide) (by decide)]; rfl]
  show iprop((semVal (cell 1 c) 0 ∗ semVal (cell 2 c) 0 ∗ semVal (cell 3 c) 0) ∗ semVal (cell 0 c) 0)
    = (iprop(semVal (cell 0 c) 0 ∗ semVal (cell 1 c) 0 ∗ semVal (cell 2 c) 0 ∗ semVal (cell 3 c) 0) : sProp 𝕄)
  exact swap_sides _ _

omit [FloatOps F] in
/-- Each device makes the invariants of its semaphores, at zero. -/
theorem establish (c : Dev nD) :
    iprop(Pipeline.ownSems0 (Ix := Unit) (Name := ℕ) (U := Books) (Lvl := ℕ) (Val := Elt F) (τ := τ) ownSems c ∗ unscopedSems0 c ∗ dealt σ m c)
      ⊢ |={Set.univ}=> iprop((bigSep Finset.univ fun k : Fin 4 => iprop(∃ κ : ℕ, cellInv books (plan σ m) κ (cell k c)))
          ∗ (bigSep Finset.univ fun k : Fin 4 => atPos books (cell k c) 0 ∅ 0) ∗ (bigSep Finset.univ fun k : Fin 4 => reached books (cell k c) 0)
          ∗ bigSep Finset.univ fun k : Fin 4 => dutyTok books (cell k c) 0 ()) := by
  unfold dealt
  iintro ⟨Ho, Hu, Hs, Hrest⟩
  ihave Hz := (Entails.of_eq (four_zero (F := F) c)) $$ [Ho Hu]
  · isplitl [Ho] <;> iassumption
  imod (show iprop((bigSep Finset.univ fun k : Fin 4 => semVal (cell k c) 0) ∗ bigSep Finset.univ fun k : Fin 4 => roundState books (plan σ m) (cell k c) 0)
      ⊢ (|={Set.univ}=> bigSep Finset.univ fun k : Fin 4 => iprop(∃ κ : ℕ, cellInv books (plan σ m) κ (cell k c)) : sProp 𝕄) from by
        rw [← bigSep_sep']
        exact (bigSep_mono fun k _ => (Rounds.body_intro books (plan σ m) (cell k c)).trans inv_alloc).trans (bigSep_fupd _ _)) $$ [Hz Hs] with Hinv
  · isplitl [Hz] <;> iassumption
  imodintro
  isplitl [Hinv]; · iexact Hinv
  iexact Hrest

/-- The records and a device's own part, which is what it keeps of the protocol. -/
def keeps (c : Dev nD) : sProp 𝕄 := iprop(∃ K, records σ m K ∗ own (F := F) σ c)

omit [FloatOps F] in
/-- The rights go to the devices that will use them. -/
theorem pass_rights :
    (bigSep Finset.univ fun c : Dev nD => bigSep Finset.univ fun k : Fin 4 => (dutyTok books (cell k c) 0 () : sProp 𝕄))
      = bigSep Finset.univ fun c : Dev nD => bigSep Finset.univ fun k : Fin 4 => dutyTok books (cell k (raises σ k c)) 0 () := by
  rw [swap_order fun k c => dutyTok books (cell k c) 0 (), swap_order fun k c => dutyTok books (cell k (raises σ k c)) 0 ()]
  exact bigSep_congr fun k _ => bigSep_univ_equiv (raises σ k) fun c : Dev nD => (dutyTok books (cell k c) 0 () : sProp 𝕄)

omit [FloatOps F] in
/-- What is shared and persistent can be given to each. -/
theorem give_each {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
theorem share_out :
    (bigSep Finset.univ fun c : Dev nD => iprop((bigSep Finset.univ fun k : Fin 4 => iprop(∃ κ : ℕ, cellInv books (plan σ m) κ (cell k c)))
          ∗ (bigSep Finset.univ fun k : Fin 4 => atPos books (cell k c) 0 ∅ 0) ∗ (bigSep Finset.univ fun k : Fin 4 => reached books (cell k c) 0)
          ∗ bigSep Finset.univ fun k : Fin 4 => dutyTok books (cell k c) 0 ()) : sProp 𝕄)
      ⊢ bigSep Finset.univ (keeps σ m) := by
  rw [bigSep_sep', bigSep_sep', bigSep_sep', pass_rights, ← by_device fun k c => iprop(∃ κ : ℕ, cellInv books (plan σ m) κ (cell k c)),
    ← by_device fun k c => reached books (cell k c) 0]
  iintro ⟨HI, Ha, #HR, Ht⟩
  ihave HK := (BI.bigSep_exists_pi Finset.univ fun (i : Fin 4 × Dev nD) (κ : ℕ) => (cellInv books (plan σ m) κ (cell i.1 i.2) : sProp 𝕄)) $$ HI
  icases HK with ⟨%K, #HI⟩
  iapply (give_each (R := records σ m K) (Φ := own σ) fun c => by
    unfold keeps; iintro ⟨HR, Ho⟩; iexists K; isplitl [HR] <;> iassumption)
  isplitr
  · unfold records; isplitl; · iexact HI
    iexact HR
  unfold own; rw [bigSep_sep']
  isplitl [Ha]; · iexact Ha
  iexact Ht

omit [FloatOps F] in
/-- All devices at once: from their semaphores at zero to what each keeps of the protocol. -/
theorem set_up : (bigSep Finset.univ fun c => iprop(Pipeline.ownSems0 (Ix := Unit) (Name := ℕ) (U := Books) (Lvl := ℕ) (Val := Elt F) (τ := τ) ownSems c
      ∗ unscopedSems0 c ∗ dealt σ m c) : sProp 𝕄)
    ⊢ |={Set.univ}=> bigSep Finset.univ (keeps σ m) :=
  ((bigSep_mono fun c _ => establish σ m c).trans (bigSep_fupd _ _)).trans (BI.fupd_mono (share_out σ m))

/-! ## What the devices will be given -/

/-- What device `d` owes to the semaphore `k` of device `c`, for the barrier and the incoming transfer: its units, if it is
    the device that raises it. -/
theorem owed_to (k : Fin 4) (hk : k = 0 ∨ k = 3) (d c : Dev nD) :
    owed σ d (cell k c) () = if d = (raises σ k).symm c then units k else 0 := by
  have hd (l : Fin 4) : (cell k c = cell l (raises σ l d) ∧ () = ()) ↔ (k = l ∧ d = (raises σ k).symm c) := by
    rw [cell_eq_iff, Equiv.eq_symm_apply (raises σ k)]
    constructor
    · rintro ⟨⟨rfl, h⟩, -⟩; exact ⟨rfl, h.symm⟩
    · rintro ⟨rfl, h⟩; exact ⟨⟨rfl, h.symm⟩, rfl⟩
  unfold owed
  rw [Pi.add_apply, Finsupp.add_apply, tallyAt_apply, tallyAt_apply, if_congr (hd 3) rfl rfl, if_congr (hd 0) rfl rfl]
  rcases hk with rfl | rfl
  · rw [if_neg fun h => absurd h.1 (by decide), Nat.zero_add]; exact if_congr ⟨fun h => h.2, fun h => ⟨rfl, h⟩⟩ rfl rfl
  · rw [if_neg (c := (3 : Fin 4) = 0 ∧ _) fun h => absurd h.1 (by decide), Nat.add_zero]; exact if_congr ⟨fun h => h.2, fun h => ⟨rfl, h⟩⟩ rfl rfl

/-- So the launch credits each of the two with its units. -/
theorem credited (k : Fin 4) (hk : k = 0 ∨ k = 3) (c : Dev nD) :
    tallyOn (cell k c) (launchCredit (Pipeline.owing (owed σ)) 0 (cell k c)) = (tallyAt (cell k c) () (units k) : CellTallies nD τ sig Unit) := by
  unfold tallyAt; refine congrArg _ (Finsupp.ext fun u => ?_); cases u
  rw [Pipeline.launchCredit_owing, Finsupp.single_eq_same, Finset.sum_congr rfl fun d _ => owed_to σ k hk d c,
    Finset.sum_ite_eq' Finset.univ _ fun _ => units k, if_pos (Finset.mem_univ _)]

omit [FloatOps F] in
theorem credits (c : Dev nD) :
    (Pipeline.launchCred (owed σ) c : sProp 𝕄) ⊢ iprop(cred (tallyAt (cell 0 c) () (units 0)) ∗ cred (tallyAt (cell 3 c) () (units 3))) := by
  unfold Pipeline.launchCred
  rw [bigSep_univ_at _ (sems 0), credited σ 0 (.inl rfl) c]
  refine sep_mono_right ?_
  rw [← credited σ 3 (.inr rfl) c]
  exact bigSep_elim (Finset.mem_erase.mpr ⟨fun h => absurd (sems_injective h) (by decide), Finset.mem_univ _⟩)

/-! ## What the launch theorem asks -/

/-- What a device has left at the end, outside its launch's own buffers: its two arrays and its barrier. -/
def ends (c : Dev nD) : sProp 𝕄 :=
  iprop((holds main_arg0 c (block m c) ∗ holds main_v1 c (block m ((move σ).symm c))) ∗ unscopedSems0 c)

omit [FloatOps F] in
theorem begin_intro (g : Dev nD → PrngReg) (c : Dev nD) :
    iprop(Pipeline.unscopedRestP Pipeline.Prefetch.none cfg0.spec c (fun b => m ((c : Thread nD τ).loc b)) ∗ levAts levelled height
        ∗ Pipeline.launchCred (owed σ) c ∗ prngReg c (g c) ∗ keeps σ m c)
      ⊢ |={Set.univ}=> iprop(begins σ m c ∗ emp) := by
  rw [Pipeline.unscopedRestP_none, unscopedRest0_eq]
  iintro ⟨⟨Hx, Hv⟩, Hlev, Hcr, -, HK⟩
  ihave Hc := (credits (F := F) σ c) $$ Hcr
  imodintro
  unfold begins keeps
  isplitl
  · isplitl [HK]; · iexact HK
    isplitl [Hc]; · iexact Hc
    isplitl [Hlev]; · iexact Hlev
    isplitl [Hx]; · unfold holds; iexact Hx
    iexists m ((c : Thread nD τ).loc main_v1); unfold holds; iexact Hv
  · iempintro

omit [FloatOps F] in
theorem body_start (c : Dev nD) :
    iprop(begins σ m c ∗ Pipeline.prefHeld Pipeline.Prefetch.none c (fun _ => fullShare.right) (fun k => k.elim0) ∗ Pipeline.scopedRest cfg0.spec c)
      ⊢ (account σ m 0 c).Φ 0 := by
  rw [show (account σ m 0 c).Φ 0 = before σ m c from rfl, scopedRest0_eq]
  unfold before holds
  iintro ⟨Hb, -, Hs⟩
  isplitl [Hb]; · iexact Hb
  iexact Hs

omit [FloatOps F] in
theorem body_end (c : Dev nD) :
    (account σ m 0 c).Φ (Fin.last cfg0.N) ⊢ iprop(ends σ m c ∗ Pipeline.ownSems0 ownSems c ∗ Pipeline.scopedRest cfg0.spec c) := by
  rw [show (account σ m 0 c).Φ (Fin.last cfg0.N) = after σ m c from rfl, scopedRest0_eq]
  unfold after ends
  rw [← four_zero]
  iintro ⟨Ha, Hs, Ho, Hu⟩
  isplitl [Ha Hu]
  · isplitl [Ha] <;> iassumption
  isplitl [Ho]; · iexact Ho
  unfold holds; iexact Hs

theorem table_waits (c : Dev nD) : (levAts levelled height : sProp 𝕄) ⊢ Pipeline.cellsWaits cfgs (account σ m) () 0 c :=
  Pipeline.cellsWaits_intro cfgs (account σ m) () 0 c fun w s t =>
    may_wait_table σ c _ (by fin_cases w <;> fin_cases s <;> decide) _ (by
      rcases t with ⟨_ | _, ht⟩
      · exact Or.inl rfl
      · exact Or.inr rfl)

/-- What is read at the end: on each device the two arrays and the barrier. -/
def reads (c : Dev nD) (s : MemSt nD τ sig (Elt F)) : Prop :=
  (s.mem ((c : Thread nD τ).loc main_arg0) = block m c ∧ s.mem ((c : Thread nD τ).loc main_v1) = block m ((move σ).symm c))
    ∧ ∀ sm : SemLoc sig, sm.isScoped .tc = false → s.sem ((c.tc : Thread nD τ), sm) = 0

omit [FloatOps F] in
/-- Holding a buffer tells what the memory has there. -/
theorem read_one (b : Ref sig .tc) (c : Dev nD) (f : b.ty.Contents (Elt F)) (s : Phys nD τ sig (Elt F)) :
    iprop(holds b c f ∗ SI s) ⊢ (iprop(⌜s.mem.mem ((c : Thread nD τ).loc b) = f⌝ ∗ SI s) : sProp 𝕄) := by
  have w := pointsTo_read_all (Ix := Unit) (Name := ℕ) (U := Books) (Lvl := ℕ) ({()} : Finset Unit) (fun _ => (c : Thread nD τ).loc b) (fun _ => f) s
  rw [bigSep_singleton] at w
  unfold holds
  refine w.trans ?_
  iintro ⟨%h, H⟩
  isplitr; · ipureintro; exact h () (Finset.mem_singleton_self _)
  iexact H

omit [FloatOps F] in
theorem read_end (c : Dev nD) (s : Phys nD τ sig (Elt F)) :
    iprop(ends σ m c ∗ emp ∗ SI s) ⊢ |={Set.univ}=> (iprop(⌜reads σ m c s.mem⌝ ∗ SI s) : sProp 𝕄) := by
  unfold ends
  iintro ⟨⟨⟨Hx, Hv⟩, Hu⟩, -, HS⟩
  ihave H := (read_one main_arg0 c (block m c) s) $$ [Hx HS]
  · isplitl [Hx] <;> iassumption
  icases H with ⟨%hx, HS⟩
  ihave H := (read_one main_v1 c (block m ((move σ).symm c)) s) $$ [Hv HS]
  · isplitl [Hv] <;> iassumption
  icases H with ⟨%hv, HS⟩
  imod (Pipeline.unscopedSems0_read (X := unscopedSems0 c) (c := c) fupd_intro s) $$ [Hu HS] with ⟨%hz, HS⟩
  · isplitl [Hu] <;> iassumption
  imodintro
  isplitr; · ipureintro; exact ⟨⟨hx, hv⟩, hz⟩
  iexact HS

/-! ## The run -/

/-- What the program does when every device's table lists the values of `σ`: it ends, with every device's result the block
    of the device that sends to it, with the arguments as they were, and with all semaphores at zero. -/
def Permuted (r : PUnit × MemSt nD τ sig (Elt F)) : Prop :=
  (∀ c : Dev nD, r.2.mem ((c : Thread nD τ).loc main_v1) = block m ((move σ).symm c)
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

set_option maxRecDepth 8000 in
theorem run_permutes (h : Lists σ m) (g : Dev nD → PrngReg) :
    θ_run (defs (F := F)) (onTc (τ := τ) (main (F := F))) ⟨m, fun _ => 0, g⟩ (Permuted σ m) :=
  Pipeline.θ_run_region_owing_glob_pf (fun p => (cfgs p).toPCfg) (fun p => (cfgs p).toPCfg_adm) (account σ m) () cellOf_inj (0 : Fin 1)
    winFacts0.to₀ own_facts (Pipeline.PreFacts.none _) stagingBooks defs₀ noVariants m g main
    (hmain := fun _ => rfl)
    (hbody := body_meets σ m h) (hne := block_pos0) (harr := arr_whole0) (hstage := stage_whole0) (hshare := all_share σ m)
    (hdistinct := winFacts0.arr_inj)
    (O₀ := owed σ) (howed₀ := fun _ => rfl) (howedN := fun _ => rfl)
    (L := levelled) (lv := height) (hL := fun _ hg => if_neg hg) (hwaits := table_waits σ m)
    (G := dealt σ m) (G' := keeps σ m) (u₀ := initial)
    (hu₀ := by
      unfold initial
      iintro Hu
      ihave H := (ownU_pair _ _) $$ Hu
      icases H with ⟨HP, HX⟩
      imod (deal σ m) $$ HX with HG
      imodintro
      isplitl [HP] <;> iassumption)
    (hglob := set_up σ m)
    (hA := fun _ _ => rfl) (hpf := fun _ k => k.elim0)
    (X := begins σ m) (Y := ends σ m) (Z := fun _ => iprop(emp))
    (hX := begin_intro σ m g) (hin := body_start σ m) (hout := body_end σ m)
    (QY := reads σ m) (hY := read_end σ m)
    (hQ := fun s hr hs => ⟨fun c => ⟨(hr c).2.2.1.2, (hr c).2.2.1.1,
        ((hr c).1 (0 : Fin 1)).trans ((account (F := F) σ m 0 c).arrAt_in (0 : Fin 1) rfl _)⟩,
      sem_eq_zero hs fun c => (hr c).2.2.2⟩)

end Permute

end
-- ==== Proof.Reference.lean ====
/- What the reference computes when its table lists a permutation: sorting the table gives the permutation's inverse, and
   the gather along it puts row `σ⁻¹ j` of the array at row `j`. -/
module

public import proofs.«01_k».proof.Proof.Gen.ReferenceIdeal.Run
public import Idealize.ShloMosaic.PureOps.Ideal

@[expose] public section

noncomputable section

namespace Permute.Reference

open Cert.ReferenceIdeal Cert.ReferenceIdeal.Gen
open Idealize.ShloMosaic Idealize.ShloMosaic.TcCoe Idealize.SL.Sem

/-- The whole array and the table, as the reference takes them. -/
abbrev Whole : Type := S4x256x256.Idx → Elt Ideal .bf16
abbrev Order : Type := IVec S4 32

/-- The table that lists the values of `σ`. -/
def listing (σ : Equiv.Perm (Fin 4)) : Order := fun i => BitVec.ofNat 32 (σ (i 0)).val

/-- The rows the reference gathers: the table's argsort, a negative entry counted from the end. -/
def rows (t : Order) : IVec S4x1 32 :=
  broadcastInDim S4x1 ![0] bcast_S4_S4x1_0
    (select (cmpi .slt ((Host.sort2 S4 0 comparator_i32_i32_d0 t (iotaInDim S4 32 0)).2) (broadcastInDim S4 ![] bcast_S_S4 (constantI S_ 32 0#32)))
      (addi ((Host.sort2 S4 0 comparator_i32_i32_d0 t (iotaInDim S4 32 0)).2) (broadcastInDim S4 ![] bcast_S_S4 (constantI S_ 32 4#32)))
      ((Host.sort2 S4 0 comparator_i32_i32_d0 t (iotaInDim S4 32 0)).2))

/-- Entry `j` of the column of row numbers. -/
def entry (j : Fin 4) : S4x1.Idx
  | ⟨0, _⟩ => j
  | ⟨1, _⟩ => (0 : Fin 1)

/-- Sorting the listing of four different positions gives, at each position, its place in the listing. -/
theorem rows_places : ∀ t : Fin 4 → Fin 4, Function.Injective t → ∀ j : Fin 4,
    rows (fun i => BitVec.ofNat 32 (t (i 0)).val) (entry (t j)) = BitVec.ofNat 32 j.val := by decide +kernel

/-- Sorting a permutation's listing gives the listing of its inverse. -/
theorem rows_listing (σ : Equiv.Perm (Fin 4)) (j : Fin 4) : rows (listing σ) (entry j) = BitVec.ofNat 32 (σ.symm j).val := by
  have h := rows_places σ σ.injective (σ.symm j)
  rwa [Equiv.apply_symm_apply] at h

/-- The place of the array in row `r` and with the other coordinates of `j`. -/
def atRow (j : S4x256x256.Idx) (r : Fin 4) : S4x256x256.Idx
  | ⟨0, _⟩ => r
  | ⟨1, _⟩ => j 1
  | ⟨2, _⟩ => j 2

/-- A row number read as the gather reads it, signed and not beyond the last row. -/
theorem read_back : ∀ r : Fin 4, min (BitVec.ofNat 32 r.val).toInt.toNat 3 + 0 + 0 = r.val := by decide

/-- The gather reads, for each element of row `j 0`, the row that the column names. -/
theorem gather_rows (x : Whole) (idx : IVec S4x1 32) (j : S4x256x256.Idx) (r : Fin 4) (h : idx (entry (j 0)) = BitVec.ofNat 32 r.val) :
    Host.gather gather_S4x256x256_S4x1_S4x256x256_12_0_n_n_0_1_1256256 x idx j = x (atRow j r) := by
  refine congrArg x (funext fun a => Fin.ext ?_)
  fin_cases a
  · have hi : (gather_S4x256x256_S4x1_S4x256x256_12_0_n_n_0_1_1256256).siIdx j ⟨0, by decide⟩ = entry (j 0) := by
      funext b; fin_cases b <;> rfl
    show min (idx ((gather_S4x256x256_S4x1_S4x256x256_12_0_n_n_0_1_1256256).siIdx j ⟨0, _⟩)).toInt.toNat 3 + 0 + 0 = r.val
    rw [hi, h]
    exact read_back r
  · show 0 + 0 + (j 1).val = (j 1).val
    omega
  · show 0 + 0 + (j 2).val = (j 2).val
    omega

/-- The array with row `σ⁻¹ j` at row `j`. -/
def permuted (σ : Equiv.Perm (Fin 4)) (x : Whole) : Whole := fun j => x (atRow j (σ.symm (j 0)))

/-- The reference's run: its result is the permuted array, and its arguments are as they were. -/
theorem run_permutes (σ : Equiv.Perm (Fin 4)) (m : (ℓ : Loc nD τ sig) → Buf (Elt Ideal) ℓ) (g : Dev nD → PrngReg)
    (h : m (((0 : Dev nD) : Thread nD τ).loc main_arg1) = listing σ) :
    θ_run (defs (F := Ideal)) (onTc (τ := τ) (main (F := Ideal))) ⟨m, fun _ => 0, g⟩ fun r =>
      r.2.mem (((0 : Dev nD) : Thread nD τ).loc main_v9) = permuted σ (m (((0 : Dev nD) : Thread nD τ).loc main_arg0))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1) :=
  (θ_run defs _ _).mono (fun r hr => ⟨(hr 0).1.trans (by
      rw [h]
      funext j
      exact gather_rows _ (rows (listing σ)) j (σ.symm (j 0)) (rows_listing σ (j 0))), (hr 0).2⟩)
    (Cert.ReferenceIdeal.Value.run m g)

end Permute.Reference

end
-- ==== Proof.Claims.lean ====
/- From the run to the claims: the run for either printed text of the kernel, the devices' blocks as parts of the whole
   array, and what the preconditions say of the table. -/
module

public import proofs.«01_k».proof.Proof.Run
public import proofs.«01_k».proof.Proof.Reference
public import proofs.«01_k».proof.KernelIdeal
public import proofs.«01_k».proof.Proof.Gen.KernelIdeal
public import Idealize.ShloMosaic.Lib.Layout
public import Idealize.ShloMosaic.PureOps.BitExact
public import Idealize.ShloMosaic.PureOps.Ideal

@[expose] public section

noncomputable section

namespace Permute

open Cert.Kernel Cert.Kernel.Gen
open Idealize.ShloMosaic Idealize.ShloMosaic.TcCoe Idealize.SL.Sem

variable {F : FTy → Type} [FloatOps F]

/-! ## The idealized text -/

set_option smartUnfolding false in
/-- The idealized kernel is printed as the kernel is, so a run of the one is a run of the other. -/
theorem of_kernel {s : MemSt nD τ sig (Elt F)} {Q : PUnit × MemSt nD τ sig (Elt F) → Prop}
    (h : θ_run (Cert.Kernel.defs (F := F)) (onTc (τ := τ) (Cert.Kernel.main (F := F))) s Q) :
    θ_run (Cert.KernelIdeal.defs (F := F)) (onTc (τ := Cert.KernelIdeal.τ) (Cert.KernelIdeal.main (F := F))) s Q := h

/-! ## The frames -/

/-- Under a table that lists a permutation the kernel ends with its arguments as they were and all semaphores at zero. -/
theorem frame_kernel (σ : Equiv.Perm (Fin 4)) (m : (ℓ : Loc nD τ sig) → Buf (Elt F) ℓ) (h : Lists σ m) (g : Dev nD → PrngReg) :
    θ_run (Cert.Kernel.defs (F := F)) (onTc (τ := τ) (Cert.Kernel.main (F := F))) ⟨m, fun _ => 0, g⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  (θ_run _ _ _).mono (fun _ hr => ⟨fun c => (hr.1 c).2, hr.2⟩) (run_permutes σ m h g)

/-! ## The blocks -/

/-- The block of the whole array that device `c` holds, by the mesh and the cut of the claim. -/
abbrev part (c : Dev nD) (x : Reference.Whole) : S1x256x256.Idx → Elt Ideal .bf16 :=
  Layout.blockN ⟨3, ![1, 256, 256]⟩ ⟨3, ![4, 256, 256]⟩ (Layout.meshBlock [2, 2, 4] ![[2], [], []] c) x

/-- Device `c` holds the row of its position. -/
theorem part_row : ∀ c : Dev nD, ((Layout.meshBlock [2, 2, 4] ![[2], [], []] c : (b : Fin 3) → _) 0).val = (pos c).val := by decide

/-- The block of the permuted array that device `c` holds is the block that the device sending to it holds of the array. -/
theorem part_permuted (σ : Equiv.Perm (Fin 4)) (x : Reference.Whole) (c : Dev nD) :
    part c (Reference.permuted σ x) = part ((move σ).symm c) x := by
  have row (d : Dev nD) (i : S1x256x256.Idx) :
      ((Layout.meshBlock [2, 2, 4] ![[2], [], []] d : (b : Fin 3) → _) 0).val * 1 + (i 0).val = (pos d).val := by
    have h : (i 0).val < 1 := (i 0).isLt
    rw [part_row d]; omega
  funext i
  refine congrArg x (funext fun a => Fin.ext ?_)
  fin_cases a
  · show (σ.symm ⟨((Layout.meshBlock [2, 2, 4] ![[2], [], []] c : (b : Fin 3) → _) 0).val * 1 + (i 0).val, _⟩).val
      = ((Layout.meshBlock [2, 2, 4] ![[2], [], []] ((move σ).symm c) : (b : Fin 3) → _) 0).val * 1 + (i 0).val
    rw [row ((move σ).symm c) i, show pos ((move σ).symm c) = σ.symm (pos c) from pos_peer c _]
    exact congrArg (fun k => (σ.symm k).val) (Fin.ext (row c i))
  · rfl
  · rfl

/-! ## The tables -/

/-- The word of place `j` is `w`, as a vector of one truth value. -/
def wordIs (t : IVec S4 32) (j : ℕ) (w : BitVec 32) (h : S4.Slices ![j] S1) : IVec S1 1 :=
  cmpi .eq (extractStridedSlice S1 ![j] t h) (broadcastInDim S1 ![] (by decide : (⟨0, ![]⟩ : Shape).BroadcastsInDim S1 _) (constantI ⟨0, ![]⟩ 32 w))

/-- The table's four words are `a`, `b`, `d` and `e`: what the preconditions compute, each for its own four numbers. -/
def tableIs (a b d e : BitVec 32) (t : IVec S4 32) : IVec S1 1 :=
  andi (andi (andi (wordIs t 0 a (by decide)) (wordIs t 1 b (by decide))) (wordIs t 2 d (by decide))) (wordIs t 3 e (by decide))

/-- The one place of a vector of one element. -/
def sole : S1.Idx := fun a => ⟨0, by revert a; decide⟩

/-- If that holds, each word is the one named. -/
theorem words_of_tableIs {a b d e : BitVec 32} {t : IVec S4 32} (h : tableIs a b d e t = fun _ => 1#1) :
    ((t (place 0) = a ∧ t (place 1) = b) ∧ t (place 2) = d) ∧ t (place 3) = e := by
  have and_one : ∀ x y : BitVec 1, x &&& y = 1#1 → x = 1#1 ∧ y = 1#1 := by decide
  have word (j : Fin 4) (w : BitVec 32) (hj : S4.Slices ![j.val] S1) (hw : wordIs t j.val w hj sole = 1#1) : t (place j) = w := by
    have he : IntOp.cmpi .eq (t (place j)) w = 1#1 := by
      refine Eq.trans (congrArg (fun v => IntOp.cmpi .eq v w) (congrArg t (funext fun x => Fin.ext ?_))) hw
      fin_cases x; rfl
    by_contra hne
    rw [show IntOp.cmpi .eq (t (place j)) w = BitVec.ofBool (t (place j) == w) from rfl, beq_eq_false_iff_ne.mpr hne] at he
    exact absurd he (by decide)
  obtain ⟨h', h3⟩ := and_one _ _ (congrFun h sole)
  obtain ⟨h', h2⟩ := and_one _ _ h'
  obtain ⟨h0, h1⟩ := and_one _ _ h'
  exact ⟨⟨⟨word 0 a _ h0, word 1 b _ h1⟩, word 2 d _ h2⟩, word 3 e _ h3⟩

/-- Four different positions, as a permutation of the positions. -/
def order (a b d e : Fin 4) (h : Function.Injective ![a, b, d, e] := by decide) : Equiv.Perm (Fin 4) :=
  Equiv.ofBijective ![a, b, d, e] (Finite.injective_iff_bijective.mp h)

/-- Tables whose words are a permutation's values list it. -/
theorem lists_of_tables (σ : Equiv.Perm (Fin 4)) (m : (ℓ : Loc nD τ sig) → Buf (Elt F) ℓ)
    (h : ∀ c : Dev nD, tableIs (posWord (σ 0)) (posWord (σ 1)) (posWord (σ 2)) (posWord (σ 3)) (table m c) = fun _ => 1#1) : Lists σ m := fun c j => by
  obtain ⟨⟨⟨h0, h1⟩, h2⟩, h3⟩ := words_of_tableIs (h c)
  fin_cases j
  exacts [h0, h1, h2, h3]

/-! ## The equation with the reference -/

/-- If every device's table lists a permutation, every device's block is its part of the reference's array and the
    reference's table is the devices', then both programs end, each device's result is its part of the reference's result,
    and all arguments are as they were. -/
theorem agree (σ : Equiv.Perm (Fin 4)) (m : (ℓ : Loc nD τ sig) → Buf (Elt Ideal) ℓ) (g : Dev nD → PrngReg)
    (m' : (ℓ : Loc Cert.ReferenceIdeal.nD Cert.ReferenceIdeal.τ Cert.ReferenceIdeal.sig) → Buf (Elt Ideal) ℓ)
    (g' : Dev Cert.ReferenceIdeal.nD → PrngReg) (hl : Lists σ m)
    (h : ∀ c : Dev nD, m ((c : Thread nD τ).loc main_arg0)
          = part c (m' (((0 : Dev Cert.ReferenceIdeal.nD).tc : Thread Cert.ReferenceIdeal.nD Cert.ReferenceIdeal.τ).loc Cert.ReferenceIdeal.main_arg0))
        ∧ m ((c : Thread nD τ).loc main_arg1)
          = m' (((0 : Dev Cert.ReferenceIdeal.nD).tc : Thread Cert.ReferenceIdeal.nD Cert.ReferenceIdeal.τ).loc Cert.ReferenceIdeal.main_arg1)) :
    ∃ v : Reference.Whole,
      θ_run (Cert.KernelIdeal.defs (F := Ideal)) (onTc (τ := Cert.KernelIdeal.τ) (Cert.KernelIdeal.main (F := Ideal))) ⟨m, fun _ => 0, g⟩
        (fun r => ∀ c : Dev nD, r.2.mem ((c : Thread nD τ).loc main_v1) = part c v
          ∧ r.2.mem ((c : Thread nD τ).loc main_arg0) = m ((c : Thread nD τ).loc main_arg0)
          ∧ r.2.mem ((c : Thread nD τ).loc main_arg1) = m ((c : Thread nD τ).loc main_arg1))
      ∧ θ_run (Cert.ReferenceIdeal.defs (F := Ideal)) (onTc (τ := Cert.ReferenceIdeal.τ) (Cert.ReferenceIdeal.main (F := Ideal))) ⟨m', fun _ => 0, g'⟩
        (fun r => r.2.mem (((0 : Dev Cert.ReferenceIdeal.nD).tc : Thread Cert.ReferenceIdeal.nD Cert.ReferenceIdeal.τ).loc Cert.ReferenceIdeal.main_v9) = v
          ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1)
            = m' (((0 : Dev Cert.ReferenceIdeal.nD).tc : Thread Cert.ReferenceIdeal.nD Cert.ReferenceIdeal.τ).loc Cert.ReferenceIdeal.main_arg1)) := by
  have ht : m' (((0 : Dev Cert.ReferenceIdeal.nD).tc : Thread Cert.ReferenceIdeal.nD Cert.ReferenceIdeal.τ).loc Cert.ReferenceIdeal.main_arg1)
      = Reference.listing σ := by
    rw [← (h 0).2]
    funext i
    refine Eq.trans (congrArg (table m 0) (funext fun a => Fin.ext ?_)) (hl 0 (i 0))
    fin_cases a; rfl
  refine ⟨_, of_kernel ((θ_run _ _ _).mono (fun r hr c => ⟨?_, (hr.1 c).2⟩) (run_permutes σ m hl g)), Reference.run_permutes σ m' g' ht⟩
  refine (hr.1 c).1.trans ((h _).1.trans ?_)
  exact (part_permuted σ _ c).symm

/-! ## The claims, for a table of four given positions -/

/-- The kernel's frame when every device's table is `a, b, d, e`. -/
theorem kernel_frame (a b d e : Fin 4) (hi : Function.Injective ![a, b, d, e] := by decide) (m : (ℓ : Loc nD τ sig) → Buf (Elt F) ℓ)
    (g : Dev nD → PrngReg) (h : ∀ c : Dev nD, tableIs (posWord a) (posWord b) (posWord d) (posWord e) (table m c) = fun _ => 1#1) :
    θ_run (Cert.Kernel.defs (F := F)) (onTc (τ := τ) (Cert.Kernel.main (F := F))) ⟨m, fun _ => 0, g⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  frame_kernel (order a b d e hi) m (lists_of_tables _ m h) g

/-- The idealized kernel's frame when every device's table is `a, b, d, e`. -/
theorem ideal_frame (a b d e : Fin 4) (hi : Function.Injective ![a, b, d, e] := by decide) (m : (ℓ : Loc nD τ sig) → Buf (Elt F) ℓ)
    (g : Dev nD → PrngReg) (h : ∀ c : Dev nD, tableIs (posWord a) (posWord b) (posWord d) (posWord e) (table m c) = fun _ => 1#1) :
    θ_run (Cert.KernelIdeal.defs (F := F)) (onTc (τ := Cert.KernelIdeal.τ) (Cert.KernelIdeal.main (F := F))) ⟨m, fun _ => 0, g⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  of_kernel (kernel_frame a b d e hi m g h)

/-- The reference's frame: it holds without a precondition, so under any, `Q`. The reference declares no semaphore. -/
theorem reference_frame {Q : ((ℓ : Loc Cert.ReferenceIdeal.nD Cert.ReferenceIdeal.τ Cert.ReferenceIdeal.sig) → Buf (Elt F) ℓ) → Prop}
    (m : (ℓ : Loc Cert.ReferenceIdeal.nD Cert.ReferenceIdeal.τ Cert.ReferenceIdeal.sig) → Buf (Elt F) ℓ)
    (g : Dev Cert.ReferenceIdeal.nD → PrngReg) (_ : Q m) :
    θ_run (Cert.ReferenceIdeal.defs (F := F)) (onTc (τ := Cert.ReferenceIdeal.τ) (Cert.ReferenceIdeal.main (F := F))) ⟨m, fun _ => 0, g⟩ fun r =>
      (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) ∧ r.2.sem = fun _ => 0 :=
  (θ_run _ _ _).mono (fun r h => ⟨fun c => (h c).2, sem_eq_zero_of_no_sems (by decide) r.2⟩) (Cert.ReferenceIdeal.Value.run m g)

end Permute

end
-- ==== Proof.lean ====
/- The certificate. Each claim about the kernel is one of three theorems, proved once for an arbitrary permutation and here read
   at each of the twenty-four tables that four positions have; the claims about the reference need nothing of the table. -/
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_pi_0123_ReferenceIdeal
public import proofs.«01_k».proof.Proof.Gen.Pre_pi_0132_ReferenceIdeal
public import proofs.«01_k».proof.Proof.Gen.Pre_pi_0213_ReferenceIdeal
public import proofs.«01_k».proof.Proof.Gen.Pre_pi_0231_ReferenceIdeal
public import proofs.«01_k».proof.Proof.Gen.Pre_pi_0312_ReferenceIdeal
public import proofs.«01_k».proof.Proof.Gen.Pre_pi_0321_ReferenceIdeal
public import proofs.«01_k».proof.Proof.Gen.Pre_pi_1023_ReferenceIdeal
public import proofs.«01_k».proof.Proof.Gen.Pre_pi_1032_ReferenceIdeal
public import proofs.«01_k».proof.Proof.Gen.Pre_pi_1203_ReferenceIdeal
public import proofs.«01_k».proof.Proof.Gen.Pre_pi_1230_ReferenceIdeal
public import proofs.«01_k».proof.Proof.Gen.Pre_pi_1302_ReferenceIdeal
public import proofs.«01_k».proof.Proof.Gen.Pre_pi_1320_ReferenceIdeal
public import proofs.«01_k».proof.Proof.Gen.Pre_pi_2013_ReferenceIdeal
public import proofs.«01_k».proof.Proof.Gen.Pre_pi_2031_ReferenceIdeal
public import proofs.«01_k».proof.Proof.Gen.Pre_pi_2103_ReferenceIdeal
public import proofs.«01_k».proof.Proof.Gen.Pre_pi_2130_ReferenceIdeal
public import proofs.«01_k».proof.Proof.Gen.Pre_pi_2301_ReferenceIdeal
public import proofs.«01_k».proof.Proof.Gen.Pre_pi_2310_ReferenceIdeal
public import proofs.«01_k».proof.Proof.Gen.Pre_pi_3012_ReferenceIdeal
public import proofs.«01_k».proof.Proof.Gen.Pre_pi_3021_ReferenceIdeal
public import proofs.«01_k».proof.Proof.Gen.Pre_pi_3102_ReferenceIdeal
public import proofs.«01_k».proof.Proof.Gen.Pre_pi_3120_ReferenceIdeal
public import proofs.«01_k».proof.Proof.Gen.Pre_pi_3201_ReferenceIdeal
public import proofs.«01_k».proof.Proof.Gen.Pre_pi_3210_ReferenceIdeal
public import proofs.«01_k».proof.Proof.Gen.Pre_pi_0123_Kernel
public import proofs.«01_k».proof.Proof.Gen.Pre_pi_0132_Kernel
public import proofs.«01_k».proof.Proof.Gen.Pre_pi_0213_Kernel
public import proofs.«01_k».proof.Proof.Gen.Pre_pi_0231_Kernel
public import proofs.«01_k».proof.Proof.Gen.Pre_pi_0312_Kernel
public import proofs.«01_k».proof.Proof.Gen.Pre_pi_0321_Kernel
public import proofs.«01_k».proof.Proof.Gen.Pre_pi_1023_Kernel
public import proofs.«01_k».proof.Proof.Gen.Pre_pi_1032_Kernel
public import proofs.«01_k».proof.Proof.Gen.Pre_pi_1203_Kernel
public import proofs.«01_k».proof.Proof.Gen.Pre_pi_1230_Kernel
public import proofs.«01_k».proof.Proof.Gen.Pre_pi_1302_Kernel
public import proofs.«01_k».proof.Proof.Gen.Pre_pi_1320_Kernel
public import proofs.«01_k».proof.Proof.Gen.Pre_pi_2013_Kernel
public import proofs.«01_k».proof.Proof.Gen.Pre_pi_2031_Kernel
public import proofs.«01_k».proof.Proof.Gen.Pre_pi_2103_Kernel
public import proofs.«01_k».proof.Proof.Gen.Pre_pi_2130_Kernel
public import proofs.«01_k».proof.Proof.Gen.Pre_pi_2301_Kernel
public import proofs.«01_k».proof.Proof.Gen.Pre_pi_2310_Kernel
public import proofs.«01_k».proof.Proof.Gen.Pre_pi_3012_Kernel
public import proofs.«01_k».proof.Proof.Gen.Pre_pi_3021_Kernel
public import proofs.«01_k».proof.Proof.Gen.Pre_pi_3102_Kernel
public import proofs.«01_k».proof.Proof.Gen.Pre_pi_3120_Kernel
public import proofs.«01_k».proof.Proof.Gen.Pre_pi_3201_Kernel
public import proofs.«01_k».proof.Proof.Gen.Pre_pi_3210_Kernel
public import Idealize.ShloMosaic.Adequacy
public import Idealize.ShloMosaic.Init

@[expose] public section

noncomputable section

namespace Cert.Proof

open Idealize.ShloMosaic Idealize.SL.Sem Permute

/-- Everything that is claimed: the stated facts of the programs and the preconditions, the reference's frames, the kernel's,
    the idealized kernel's, that the one preserves the other, and the equations. -/
theorem claim : Cert.Claim :=
  ⟨Cert.ReferenceIdeal.Gen.facts, Cert.Kernel.Gen.facts, Cert.KernelIdeal.Gen.facts,
    Cert.Pre_pi_0123_ReferenceIdeal.Gen.facts, Cert.Pre_pi_0132_ReferenceIdeal.Gen.facts, Cert.Pre_pi_0213_ReferenceIdeal.Gen.facts, Cert.Pre_pi_0231_ReferenceIdeal.Gen.facts,
    Cert.Pre_pi_0312_ReferenceIdeal.Gen.facts, Cert.Pre_pi_0321_ReferenceIdeal.Gen.facts, Cert.Pre_pi_1023_ReferenceIdeal.Gen.facts, Cert.Pre_pi_1032_ReferenceIdeal.Gen.facts,
    Cert.Pre_pi_1203_ReferenceIdeal.Gen.facts, Cert.Pre_pi_1230_ReferenceIdeal.Gen.facts, Cert.Pre_pi_1302_ReferenceIdeal.Gen.facts, Cert.Pre_pi_1320_ReferenceIdeal.Gen.facts,
    Cert.Pre_pi_2013_ReferenceIdeal.Gen.facts, Cert.Pre_pi_2031_ReferenceIdeal.Gen.facts, Cert.Pre_pi_2103_ReferenceIdeal.Gen.facts, Cert.Pre_pi_2130_ReferenceIdeal.Gen.facts,
    Cert.Pre_pi_2301_ReferenceIdeal.Gen.facts, Cert.Pre_pi_2310_ReferenceIdeal.Gen.facts, Cert.Pre_pi_3012_ReferenceIdeal.Gen.facts, Cert.Pre_pi_3021_ReferenceIdeal.Gen.facts,
    Cert.Pre_pi_3102_ReferenceIdeal.Gen.facts, Cert.Pre_pi_3120_ReferenceIdeal.Gen.facts, Cert.Pre_pi_3201_ReferenceIdeal.Gen.facts, Cert.Pre_pi_3210_ReferenceIdeal.Gen.facts,
    Cert.Pre_pi_0123_Kernel.Gen.facts, Cert.Pre_pi_0132_Kernel.Gen.facts, Cert.Pre_pi_0213_Kernel.Gen.facts, Cert.Pre_pi_0231_Kernel.Gen.facts,
    Cert.Pre_pi_0312_Kernel.Gen.facts, Cert.Pre_pi_0321_Kernel.Gen.facts, Cert.Pre_pi_1023_Kernel.Gen.facts, Cert.Pre_pi_1032_Kernel.Gen.facts,
    Cert.Pre_pi_1203_Kernel.Gen.facts, Cert.Pre_pi_1230_Kernel.Gen.facts, Cert.Pre_pi_1302_Kernel.Gen.facts, Cert.Pre_pi_1320_Kernel.Gen.facts,
    Cert.Pre_pi_2013_Kernel.Gen.facts, Cert.Pre_pi_2031_Kernel.Gen.facts, Cert.Pre_pi_2103_Kernel.Gen.facts, Cert.Pre_pi_2130_Kernel.Gen.facts,
    Cert.Pre_pi_2301_Kernel.Gen.facts, Cert.Pre_pi_2310_Kernel.Gen.facts, Cert.Pre_pi_3012_Kernel.Gen.facts, Cert.Pre_pi_3021_Kernel.Gen.facts,
    Cert.Pre_pi_3102_Kernel.Gen.facts, Cert.Pre_pi_3120_Kernel.Gen.facts, Cert.Pre_pi_3201_Kernel.Gen.facts, Cert.Pre_pi_3210_Kernel.Gen.facts,
    reference_frame, reference_frame, reference_frame, reference_frame, reference_frame, reference_frame, reference_frame, reference_frame, reference_frame, reference_frame, reference_frame, reference_frame, reference_frame,
    reference_frame, reference_frame, reference_frame, reference_frame, reference_frame, reference_frame, reference_frame, reference_frame, reference_frame, reference_frame, reference_frame, reference_frame,
    kernel_frame 0 1 2 3, kernel_frame 0 1 3 2, kernel_frame 0 2 1 3, kernel_frame 0 2 3 1, kernel_frame 0 3 1 2, kernel_frame 0 3 2 1,
    kernel_frame 1 0 2 3, kernel_frame 1 0 3 2, kernel_frame 1 2 0 3, kernel_frame 1 2 3 0, kernel_frame 1 3 0 2, kernel_frame 1 3 2 0,
    kernel_frame 2 0 1 3, kernel_frame 2 0 3 1, kernel_frame 2 1 0 3, kernel_frame 2 1 3 0, kernel_frame 2 3 0 1, kernel_frame 2 3 1 0,
    kernel_frame 3 0 1 2, kernel_frame 3 0 2 1, kernel_frame 3 1 0 2, kernel_frame 3 1 2 0, kernel_frame 3 2 0 1, kernel_frame 3 2 1 0,
    ideal_frame 0 1 2 3, ideal_frame 0 1 3 2, ideal_frame 0 2 1 3, ideal_frame 0 2 3 1, ideal_frame 0 3 1 2, ideal_frame 0 3 2 1,
    ideal_frame 1 0 2 3, ideal_frame 1 0 3 2, ideal_frame 1 2 0 3, ideal_frame 1 2 3 0, ideal_frame 1 3 0 2, ideal_frame 1 3 2 0,
    ideal_frame 2 0 1 3, ideal_frame 2 0 3 1, ideal_frame 2 1 0 3, ideal_frame 2 1 3 0, ideal_frame 2 3 0 1, ideal_frame 2 3 1 0,
    ideal_frame 3 0 1 2, ideal_frame 3 0 2 1, ideal_frame 3 1 0 2, ideal_frame 3 1 2 0, ideal_frame 3 2 0 1, ideal_frame 3 2 1 0,
    trivial,
    fun m g m' g' h => agree (order 0 1 2 3) m g m' g' (lists_of_tables _ m h),
    fun m g m' g' h => agree (order 0 1 3 2) m g m' g' (lists_of_tables _ m h),
    fun m g m' g' h => agree (order 0 2 1 3) m g m' g' (lists_of_tables _ m h),
    fun m g m' g' h => agree (order 0 2 3 1) m g m' g' (lists_of_tables _ m h),
    fun m g m' g' h => agree (order 0 3 1 2) m g m' g' (lists_of_tables _ m h),
    fun m g m' g' h => agree (order 0 3 2 1) m g m' g' (lists_of_tables _ m h),
    fun m g m' g' h => agree (order 1 0 2 3) m g m' g' (lists_of_tables _ m h),
    fun m g m' g' h => agree (order 1 0 3 2) m g m' g' (lists_of_tables _ m h),
    fun m g m' g' h => agree (order 1 2 0 3) m g m' g' (lists_of_tables _ m h),
    fun m g m' g' h => agree (order 1 2 3 0) m g m' g' (lists_of_tables _ m h),
    fun m g m' g' h => agree (order 1 3 0 2) m g m' g' (lists_of_tables _ m h),
    fun m g m' g' h => agree (order 1 3 2 0) m g m' g' (lists_of_tables _ m h),
    fun m g m' g' h => agree (order 2 0 1 3) m g m' g' (lists_of_tables _ m h),
    fun m g m' g' h => agree (order 2 0 3 1) m g m' g' (lists_of_tables _ m h),
    fun m g m' g' h => agree (order 2 1 0 3) m g m' g' (lists_of_tables _ m h),
    fun m g m' g' h => agree (order 2 1 3 0) m g m' g' (lists_of_tables _ m h),
    fun m g m' g' h => agree (order 2 3 0 1) m g m' g' (lists_of_tables _ m h),
    fun m g m' g' h => agree (order 2 3 1 0) m g m' g' (lists_of_tables _ m h),
    fun m g m' g' h => agree (order 3 0 1 2) m g m' g' (lists_of_tables _ m h),
    fun m g m' g' h => agree (order 3 0 2 1) m g m' g' (lists_of_tables _ m h),
    fun m g m' g' h => agree (order 3 1 0 2) m g m' g' (lists_of_tables _ m h),
    fun m g m' g' h => agree (order 3 1 2 0) m g m' g' (lists_of_tables _ m h),
    fun m g m' g' h => agree (order 3 2 0 1) m g m' g' (lists_of_tables _ m h),
    fun m g m' g' h => agree (order 3 2 1 0) m g m' g' (lists_of_tables _ m h)⟩

end Cert.Proof

end
